-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2 = (fun _ => 1#1)

def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeIdeal_gate_weights [hPre_gate_weights : Cert.Pre_gate_weights.Facts] (m : (ℓ : Loc Cert.MoeIdeal.nD Cert.MoeIdeal.τ Cert.MoeIdeal.sig) → Buf (Elt Ideal) ℓ) : Prop :=
  ∀ c : Dev Cert.MoeIdeal.nD,
    (Cert.Pre_gate_weights.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5))) = (fun _ => 1#1)

def Pre_MoeRefIdeal (m : (ℓ : Loc Cert.MoeRefIdeal.nD Cert.MoeRefIdeal.τ Cert.MoeRefIdeal.sig) → Buf (Elt Ideal) ℓ) : Prop :=
  True

def Pre_MoeRefIdeal_gate_weights [hPre_gate_weights : Cert.Pre_gate_weights.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_gate_weights.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Mout (m : (ℓ : Loc Cert.Mout.nD Cert.Mout.τ Cert.Mout.sig) → Buf (Elt Bits) ℓ) : Prop :=
  True

def Pre_MoutIdeal (m : (ℓ : Loc Cert.MoutIdeal.nD Cert.MoutIdeal.τ Cert.MoutIdeal.sig) → Buf (Elt Ideal) ℓ) : Prop :=
  True

def Pre_MoutRefIdeal (m : (ℓ : Loc Cert.MoutRefIdeal.nD Cert.MoutRefIdeal.τ Cert.MoutRefIdeal.sig) → Buf (Elt Ideal) ℓ) : Prop :=
  True

def Pre_Min (m : (ℓ : Loc Cert.Min.nD Cert.Min.τ Cert.Min.sig) → Buf (Elt Bits) ℓ) : Prop :=
  True

def Pre_MinIdeal (m : (ℓ : Loc Cert.MinIdeal.nD Cert.MinIdeal.τ Cert.MinIdeal.sig) → Buf (Elt Ideal) ℓ) : Prop :=
  True

def Pre_MinRefIdeal (m : (ℓ : Loc Cert.MinRefIdeal.nD Cert.MinRefIdeal.τ Cert.MinRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ r.2.sem = fun _ => 0)

def quiescent_MoeIdeal_pre_gate_weights [hMoeIdeal : Cert.MoeIdeal.Facts] [hPre_gate_weights : Cert.Pre_gate_weights.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal_gate_weights m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5))
      ∧ r.2.sem = fun _ => 0)

def quiescent_MoeRefIdeal_pre_gate_weights [hMoeRefIdeal : Cert.MoeRefIdeal.Facts] [hPre_gate_weights : Cert.Pre_gate_weights.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal_gate_weights m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Mout [hMout : Cert.Mout.Facts] : Prop :=
  ∀ (m : (ℓ : Loc Cert.Mout.nD Cert.Mout.τ Cert.Mout.sig) → Buf (Elt Bits) ℓ) (g : Dev Cert.Mout.nD → PrngReg), Pre_Mout m →
    θ_run (Cert.Mout.defs (F := Bits)) (onTc (τ := Cert.Mout.τ) (Cert.Mout.main (F := Bits))) ⟨m, fun _ => 0, g⟩ (fun r => (∀ c : Dev Cert.Mout.nD,
      r.2.mem ((c.tc : Thread Cert.Mout.nD Cert.Mout.τ).loc Cert.Mout.main_arg0) = m ((c.tc : Thread Cert.Mout.nD Cert.Mout.τ).loc Cert.Mout.main_arg0)
      ∧ r.2.mem ((c.tc : Thread Cert.Mout.nD Cert.Mout.τ).loc Cert.Mout.main_arg1) = m ((c.tc : Thread Cert.Mout.nD Cert.Mout.τ).loc Cert.Mout.main_arg1)
      ∧ r.2.mem ((c.tc : Thread Cert.Mout.nD Cert.Mout.τ).loc Cert.Mout.main_arg2) = m ((c.tc : Thread Cert.Mout.nD Cert.Mout.τ).loc Cert.Mout.main_arg2)
      ∧ r.2.mem ((c.tc : Thread Cert.Mout.nD Cert.Mout.τ).loc Cert.Mout.main_arg3) = m ((c.tc : Thread Cert.Mout.nD Cert.Mout.τ).loc Cert.Mout.main_arg3)
      ∧ r.2.mem ((c.tc : Thread Cert.Mout.nD Cert.Mout.τ).loc Cert.Mout.main_arg4) = m ((c.tc : Thread Cert.Mout.nD Cert.Mout.τ).loc Cert.Mout.main_arg4)
      ∧ r.2.mem ((c.tc : Thread Cert.Mout.nD Cert.Mout.τ).loc Cert.Mout.main_arg5) = m ((c.tc : Thread Cert.Mout.nD Cert.Mout.τ).loc Cert.Mout.main_arg5))
      ∧ r.2.sem = fun _ => 0)

def quiescent_MoutIdeal [hMoutIdeal : Cert.MoutIdeal.Facts] : Prop :=
  ∀ (m : (ℓ : Loc Cert.MoutIdeal.nD Cert.MoutIdeal.τ Cert.MoutIdeal.sig) → Buf (Elt Ideal) ℓ) (g : Dev Cert.MoutIdeal.nD → PrngReg), Pre_MoutIdeal m →
    θ_run (Cert.MoutIdeal.defs (F := Ideal)) (onTc (τ := Cert.MoutIdeal.τ) (Cert.MoutIdeal.main (F := Ideal))) ⟨m, fun _ => 0, g⟩ (fun r => (∀ c : Dev Cert.MoutIdeal.nD,
      r.2.mem ((c.tc : Thread Cert.MoutIdeal.nD Cert.MoutIdeal.τ).loc Cert.MoutIdeal.main_arg0) = m ((c.tc : Thread Cert.MoutIdeal.nD Cert.MoutIdeal.τ).loc Cert.MoutIdeal.main_arg0)
      ∧ r.2.mem ((c.tc : Thread Cert.MoutIdeal.nD Cert.MoutIdeal.τ).loc Cert.MoutIdeal.main_arg1) = m ((c.tc : Thread Cert.MoutIdeal.nD Cert.MoutIdeal.τ).loc Cert.MoutIdeal.main_arg1)
      ∧ r.2.mem ((c.tc : Thread Cert.MoutIdeal.nD Cert.MoutIdeal.τ).loc Cert.MoutIdeal.main_arg2) = m ((c.tc : Thread Cert.MoutIdeal.nD Cert.MoutIdeal.τ).loc Cert.MoutIdeal.main_arg2)
      ∧ r.2.mem ((c.tc : Thread Cert.MoutIdeal.nD Cert.MoutIdeal.τ).loc Cert.MoutIdeal.main_arg3) = m ((c.tc : Thread Cert.MoutIdeal.nD Cert.MoutIdeal.τ).loc Cert.MoutIdeal.main_arg3)
      ∧ r.2.mem ((c.tc : Thread Cert.MoutIdeal.nD Cert.MoutIdeal.τ).loc Cert.MoutIdeal.main_arg4) = m ((c.tc : Thread Cert.MoutIdeal.nD Cert.MoutIdeal.τ).loc Cert.MoutIdeal.main_arg4)
      ∧ r.2.mem ((c.tc : Thread Cert.MoutIdeal.nD Cert.MoutIdeal.τ).loc Cert.MoutIdeal.main_arg5) = m ((c.tc : Thread Cert.MoutIdeal.nD Cert.MoutIdeal.τ).loc Cert.MoutIdeal.main_arg5))
      ∧ r.2.sem = fun _ => 0)

def quiescent_MoutRefIdeal [hMoutRefIdeal : Cert.MoutRefIdeal.Facts] : Prop :=
  ∀ (m : (ℓ : Loc Cert.MoutRefIdeal.nD Cert.MoutRefIdeal.τ Cert.MoutRefIdeal.sig) → Buf (Elt Ideal) ℓ) (g : Dev Cert.MoutRefIdeal.nD → PrngReg), Pre_MoutRefIdeal m →
    θ_run (Cert.MoutRefIdeal.defs (F := Ideal)) (onTc (τ := Cert.MoutRefIdeal.τ) (Cert.MoutRefIdeal.main (F := Ideal))) ⟨m, fun _ => 0, g⟩ (fun r => (∀ c : Dev Cert.MoutRefIdeal.nD,
      r.2.mem ((c.tc : Thread Cert.MoutRefIdeal.nD Cert.MoutRefIdeal.τ).loc Cert.MoutRefIdeal.main_arg0) = m ((c.tc : Thread Cert.MoutRefIdeal.nD Cert.MoutRefIdeal.τ).loc Cert.MoutRefIdeal.main_arg0)
      ∧ r.2.mem ((c.tc : Thread Cert.MoutRefIdeal.nD Cert.MoutRefIdeal.τ).loc Cert.MoutRefIdeal.main_arg1) = m ((c.tc : Thread Cert.MoutRefIdeal.nD Cert.MoutRefIdeal.τ).loc Cert.MoutRefIdeal.main_arg1)
      ∧ r.2.mem ((c.tc : Thread Cert.MoutRefIdeal.nD Cert.MoutRefIdeal.τ).loc Cert.MoutRefIdeal.main_arg2) = m ((c.tc : Thread Cert.MoutRefIdeal.nD Cert.MoutRefIdeal.τ).loc Cert.MoutRefIdeal.main_arg2)
      ∧ r.2.mem ((c.tc : Thread Cert.MoutRefIdeal.nD Cert.MoutRefIdeal.τ).loc Cert.MoutRefIdeal.main_arg3) = m ((c.tc : Thread Cert.MoutRefIdeal.nD Cert.MoutRefIdeal.τ).loc Cert.MoutRefIdeal.main_arg3)
      ∧ r.2.mem ((c.tc : Thread Cert.MoutRefIdeal.nD Cert.MoutRefIdeal.τ).loc Cert.MoutRefIdeal.main_arg4) = m ((c.tc : Thread Cert.MoutRefIdeal.nD Cert.MoutRefIdeal.τ).loc Cert.MoutRefIdeal.main_arg4)
      ∧ r.2.mem ((c.tc : Thread Cert.MoutRefIdeal.nD Cert.MoutRefIdeal.τ).loc Cert.MoutRefIdeal.main_arg5) = m ((c.tc : Thread Cert.MoutRefIdeal.nD Cert.MoutRefIdeal.τ).loc Cert.MoutRefIdeal.main_arg5))
      ∧ r.2.sem = fun _ => 0)

def quiescent_Min [hMin : Cert.Min.Facts] : Prop :=
  ∀ (m : (ℓ : Loc Cert.Min.nD Cert.Min.τ Cert.Min.sig) → Buf (Elt Bits) ℓ) (g : Dev Cert.Min.nD → PrngReg), Pre_Min m →
    θ_run (Cert.Min.defs (F := Bits)) (onTc (τ := Cert.Min.τ) (Cert.Min.main (F := Bits))) ⟨m, fun _ => 0, g⟩ (fun r => (∀ c : Dev Cert.Min.nD,
      r.2.mem ((c.tc : Thread Cert.Min.nD Cert.Min.τ).loc Cert.Min.main_arg0) = m ((c.tc : Thread Cert.Min.nD Cert.Min.τ).loc Cert.Min.main_arg0)
      ∧ r.2.mem ((c.tc : Thread Cert.Min.nD Cert.Min.τ).loc Cert.Min.main_arg1) = m ((c.tc : Thread Cert.Min.nD Cert.Min.τ).loc Cert.Min.main_arg1)
      ∧ r.2.mem ((c.tc : Thread Cert.Min.nD Cert.Min.τ).loc Cert.Min.main_arg2) = m ((c.tc : Thread Cert.Min.nD Cert.Min.τ).loc Cert.Min.main_arg2)
      ∧ r.2.mem ((c.tc : Thread Cert.Min.nD Cert.Min.τ).loc Cert.Min.main_arg3) = m ((c.tc : Thread Cert.Min.nD Cert.Min.τ).loc Cert.Min.main_arg3))
      ∧ r.2.sem = fun _ => 0)

def quiescent_MinIdeal [hMinIdeal : Cert.MinIdeal.Facts] : Prop :=
  ∀ (m : (ℓ : Loc Cert.MinIdeal.nD Cert.MinIdeal.τ Cert.MinIdeal.sig) → Buf (Elt Ideal) ℓ) (g : Dev Cert.MinIdeal.nD → PrngReg), Pre_MinIdeal m →
    θ_run (Cert.MinIdeal.defs (F := Ideal)) (onTc (τ := Cert.MinIdeal.τ) (Cert.MinIdeal.main (F := Ideal))) ⟨m, fun _ => 0, g⟩ (fun r => (∀ c : Dev Cert.MinIdeal.nD,
      r.2.mem ((c.tc : Thread Cert.MinIdeal.nD Cert.MinIdeal.τ).loc Cert.MinIdeal.main_arg0) = m ((c.tc : Thread Cert.MinIdeal.nD Cert.MinIdeal.τ).loc Cert.MinIdeal.main_arg0)
      ∧ r.2.mem ((c.tc : Thread Cert.MinIdeal.nD Cert.MinIdeal.τ).loc Cert.MinIdeal.main_arg1) = m ((c.tc : Thread Cert.MinIdeal.nD Cert.MinIdeal.τ).loc Cert.MinIdeal.main_arg1)
      ∧ r.2.mem ((c.tc : Thread Cert.MinIdeal.nD Cert.MinIdeal.τ).loc Cert.MinIdeal.main_arg2) = m ((c.tc : Thread Cert.MinIdeal.nD Cert.MinIdeal.τ).loc Cert.MinIdeal.main_arg2)
      ∧ r.2.mem ((c.tc : Thread Cert.MinIdeal.nD Cert.MinIdeal.τ).loc Cert.MinIdeal.main_arg3) = m ((c.tc : Thread Cert.MinIdeal.nD Cert.MinIdeal.τ).loc Cert.MinIdeal.main_arg3))
      ∧ r.2.sem = fun _ => 0)

def quiescent_MinRefIdeal [hMinRefIdeal : Cert.MinRefIdeal.Facts] : Prop :=
  ∀ (m : (ℓ : Loc Cert.MinRefIdeal.nD Cert.MinRefIdeal.τ Cert.MinRefIdeal.sig) → Buf (Elt Ideal) ℓ) (g : Dev Cert.MinRefIdeal.nD → PrngReg), Pre_MinRefIdeal m →
    θ_run (Cert.MinRefIdeal.defs (F := Ideal)) (onTc (τ := Cert.MinRefIdeal.τ) (Cert.MinRefIdeal.main (F := Ideal))) ⟨m, fun _ => 0, g⟩ (fun r => (∀ c : Dev Cert.MinRefIdeal.nD,
      r.2.mem ((c.tc : Thread Cert.MinRefIdeal.nD Cert.MinRefIdeal.τ).loc Cert.MinRefIdeal.main_arg0) = m ((c.tc : Thread Cert.MinRefIdeal.nD Cert.MinRefIdeal.τ).loc Cert.MinRefIdeal.main_arg0)
      ∧ r.2.mem ((c.tc : Thread Cert.MinRefIdeal.nD Cert.MinRefIdeal.τ).loc Cert.MinRefIdeal.main_arg1) = m ((c.tc : Thread Cert.MinRefIdeal.nD Cert.MinRefIdeal.τ).loc Cert.MinRefIdeal.main_arg1)
      ∧ r.2.mem ((c.tc : Thread Cert.MinRefIdeal.nD Cert.MinRefIdeal.τ).loc Cert.MinRefIdeal.main_arg2) = m ((c.tc : Thread Cert.MinRefIdeal.nD Cert.MinRefIdeal.τ).loc Cert.MinRefIdeal.main_arg2)
      ∧ r.2.mem ((c.tc : Thread Cert.MinRefIdeal.nD Cert.MinRefIdeal.τ).loc Cert.MinRefIdeal.main_arg3) = m ((c.tc : Thread Cert.MinRefIdeal.nD Cert.MinRefIdeal.τ).loc Cert.MinRefIdeal.main_arg3))
      ∧ r.2.sem = fun _ => 0)

def preserves_Attn_AttnIdeal : Prop :=
  True

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v1)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v1) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v90) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Moe_MoeIdeal : Prop :=
  True

def algebraic_MoeIdeal_MoeRefIdeal_pre_gate_weights [hMoeIdeal : Cert.MoeIdeal.Facts] [hMoeRefIdeal : Cert.MoeRefIdeal.Facts] [hPre_gate_weights : Cert.Pre_gate_weights.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal_gate_weights m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)) →
    ∃ (v0 : (c : Dev Cert.MoeIdeal.nD) → Buf (Elt Ideal) ((c.tc : Thread Cert.MoeIdeal.nD Cert.MoeIdeal.τ).loc Cert.MoeIdeal.main_v6)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v6) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v17) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v9)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v9) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v23) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v2) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v3) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Mout_MoutIdeal : Prop :=
  True

def algebraic_MoutIdeal_MoutRefIdeal [hMoutIdeal : Cert.MoutIdeal.Facts] [hMoutRefIdeal : Cert.MoutRefIdeal.Facts] : Prop :=
  ∀ (m : (ℓ : Loc Cert.MoutIdeal.nD Cert.MoutIdeal.τ Cert.MoutIdeal.sig) → Buf (Elt Ideal) ℓ) (g : Dev Cert.MoutIdeal.nD → PrngReg)
    (m' : (ℓ : Loc Cert.MoutRefIdeal.nD Cert.MoutRefIdeal.τ Cert.MoutRefIdeal.sig) → Buf (Elt Ideal) ℓ) (g' : Dev Cert.MoutRefIdeal.nD → PrngReg), Pre_MoutIdeal m →
    (∀ c : Dev Cert.MoutIdeal.nD,
      m' ((c.tc : Thread Cert.MoutRefIdeal.nD Cert.MoutRefIdeal.τ).loc Cert.MoutRefIdeal.main_arg0) = m ((c.tc : Thread Cert.MoutIdeal.nD Cert.MoutIdeal.τ).loc Cert.MoutIdeal.main_arg0)
      ∧ m' ((c.tc : Thread Cert.MoutRefIdeal.nD Cert.MoutRefIdeal.τ).loc Cert.MoutRefIdeal.main_arg1) = m ((c.tc : Thread Cert.MoutIdeal.nD Cert.MoutIdeal.τ).loc Cert.MoutIdeal.main_arg1)
      ∧ m' ((c.tc : Thread Cert.MoutRefIdeal.nD Cert.MoutRefIdeal.τ).loc Cert.MoutRefIdeal.main_arg2) = m ((c.tc : Thread Cert.MoutIdeal.nD Cert.MoutIdeal.τ).loc Cert.MoutIdeal.main_arg2)
      ∧ m' ((c.tc : Thread Cert.MoutRefIdeal.nD Cert.MoutRefIdeal.τ).loc Cert.MoutRefIdeal.main_arg3) = m ((c.tc : Thread Cert.MoutIdeal.nD Cert.MoutIdeal.τ).loc Cert.MoutIdeal.main_arg3)
      ∧ m' ((c.tc : Thread Cert.MoutRefIdeal.nD Cert.MoutRefIdeal.τ).loc Cert.MoutRefIdeal.main_arg4) = m ((c.tc : Thread Cert.MoutIdeal.nD Cert.MoutIdeal.τ).loc Cert.MoutIdeal.main_arg4)
      ∧ m' ((c.tc : Thread Cert.MoutRefIdeal.nD Cert.MoutRefIdeal.τ).loc Cert.MoutRefIdeal.main_arg5) = m ((c.tc : Thread Cert.MoutIdeal.nD Cert.MoutIdeal.τ).loc Cert.MoutIdeal.main_arg5)) →
    ∃ (v0 : (c : Dev Cert.MoutIdeal.nD) → Buf (Elt Ideal) ((c.tc : Thread Cert.MoutIdeal.nD Cert.MoutIdeal.τ).loc Cert.MoutIdeal.main_v4)),
      θ_run (Cert.MoutIdeal.defs (F := Ideal)) (onTc (τ := Cert.MoutIdeal.τ) (Cert.MoutIdeal.main (F := Ideal))) ⟨m, fun _ => 0, g⟩ (fun r => ∀ c : Dev Cert.MoutIdeal.nD,
          r.2.mem ((c.tc : Thread Cert.MoutIdeal.nD Cert.MoutIdeal.τ).loc Cert.MoutIdeal.main_v4) = v0 c
          ∧ r.2.mem ((c.tc : Thread Cert.MoutIdeal.nD Cert.MoutIdeal.τ).loc Cert.MoutIdeal.main_arg0) = m ((c.tc : Thread Cert.MoutIdeal.nD Cert.MoutIdeal.τ).loc Cert.MoutIdeal.main_arg0)
          ∧ r.2.mem ((c.tc : Thread Cert.MoutIdeal.nD Cert.MoutIdeal.τ).loc Cert.MoutIdeal.main_arg1) = m ((c.tc : Thread Cert.MoutIdeal.nD Cert.MoutIdeal.τ).loc Cert.MoutIdeal.main_arg1)
          ∧ r.2.mem ((c.tc : Thread Cert.MoutIdeal.nD Cert.MoutIdeal.τ).loc Cert.MoutIdeal.main_arg2) = m ((c.tc : Thread Cert.MoutIdeal.nD Cert.MoutIdeal.τ).loc Cert.MoutIdeal.main_arg2)
          ∧ r.2.mem ((c.tc : Thread Cert.MoutIdeal.nD Cert.MoutIdeal.τ).loc Cert.MoutIdeal.main_arg3) = m ((c.tc : Thread Cert.MoutIdeal.nD Cert.MoutIdeal.τ).loc Cert.MoutIdeal.main_arg3)
          ∧ r.2.mem ((c.tc : Thread Cert.MoutIdeal.nD Cert.MoutIdeal.τ).loc Cert.MoutIdeal.main_arg4) = m ((c.tc : Thread Cert.MoutIdeal.nD Cert.MoutIdeal.τ).loc Cert.MoutIdeal.main_arg4)
          ∧ r.2.mem ((c.tc : Thread Cert.MoutIdeal.nD Cert.MoutIdeal.τ).loc Cert.MoutIdeal.main_arg5) = m ((c.tc : Thread Cert.MoutIdeal.nD Cert.MoutIdeal.τ).loc Cert.MoutIdeal.main_arg5))
      ∧ θ_run (Cert.MoutRefIdeal.defs (F := Ideal)) (onTc (τ := Cert.MoutRefIdeal.τ) (Cert.MoutRefIdeal.main (F := Ideal))) ⟨m', fun _ => 0, g'⟩ (fun r => ∀ c : Dev Cert.MoutRefIdeal.nD,
          r.2.mem ((c.tc : Thread Cert.MoutRefIdeal.nD Cert.MoutRefIdeal.τ).loc Cert.MoutRefIdeal.main_v27) = v0 c
          ∧ r.2.mem ((c.tc : Thread Cert.MoutRefIdeal.nD Cert.MoutRefIdeal.τ).loc Cert.MoutRefIdeal.main_arg0) = m' ((c.tc : Thread Cert.MoutRefIdeal.nD Cert.MoutRefIdeal.τ).loc Cert.MoutRefIdeal.main_arg0)
          ∧ r.2.mem ((c.tc : Thread Cert.MoutRefIdeal.nD Cert.MoutRefIdeal.τ).loc Cert.MoutRefIdeal.main_arg1) = m' ((c.tc : Thread Cert.MoutRefIdeal.nD Cert.MoutRefIdeal.τ).loc Cert.MoutRefIdeal.main_arg1)
          ∧ r.2.mem ((c.tc : Thread Cert.MoutRefIdeal.nD Cert.MoutRefIdeal.τ).loc Cert.MoutRefIdeal.main_arg2) = m' ((c.tc : Thread Cert.MoutRefIdeal.nD Cert.MoutRefIdeal.τ).loc Cert.MoutRefIdeal.main_arg2)
          ∧ r.2.mem ((c.tc : Thread Cert.MoutRefIdeal.nD Cert.MoutRefIdeal.τ).loc Cert.MoutRefIdeal.main_arg3) = m' ((c.tc : Thread Cert.MoutRefIdeal.nD Cert.MoutRefIdeal.τ).loc Cert.MoutRefIdeal.main_arg3)
          ∧ r.2.mem ((c.tc : Thread Cert.MoutRefIdeal.nD Cert.MoutRefIdeal.τ).loc Cert.MoutRefIdeal.main_arg4) = m' ((c.tc : Thread Cert.MoutRefIdeal.nD Cert.MoutRefIdeal.τ).loc Cert.MoutRefIdeal.main_arg4)
          ∧ r.2.mem ((c.tc : Thread Cert.MoutRefIdeal.nD Cert.MoutRefIdeal.τ).loc Cert.MoutRefIdeal.main_arg5) = m' ((c.tc : Thread Cert.MoutRefIdeal.nD Cert.MoutRefIdeal.τ).loc Cert.MoutRefIdeal.main_arg5))

def preserves_Min_MinIdeal : Prop :=
  True

def algebraic_MinIdeal_MinRefIdeal [hMinIdeal : Cert.MinIdeal.Facts] [hMinRefIdeal : Cert.MinRefIdeal.Facts] : Prop :=
  ∀ (m : (ℓ : Loc Cert.MinIdeal.nD Cert.MinIdeal.τ Cert.MinIdeal.sig) → Buf (Elt Ideal) ℓ) (g : Dev Cert.MinIdeal.nD → PrngReg)
    (m' : (ℓ : Loc Cert.MinRefIdeal.nD Cert.MinRefIdeal.τ Cert.MinRefIdeal.sig) → Buf (Elt Ideal) ℓ) (g' : Dev Cert.MinRefIdeal.nD → PrngReg), Pre_MinIdeal m →
    (∀ c : Dev Cert.MinIdeal.nD,
      m' ((c.tc : Thread Cert.MinRefIdeal.nD Cert.MinRefIdeal.τ).loc Cert.MinRefIdeal.main_arg0) = m ((c.tc : Thread Cert.MinIdeal.nD Cert.MinIdeal.τ).loc Cert.MinIdeal.main_arg0)
      ∧ m' ((c.tc : Thread Cert.MinRefIdeal.nD Cert.MinRefIdeal.τ).loc Cert.MinRefIdeal.main_arg1) = m ((c.tc : Thread Cert.MinIdeal.nD Cert.MinIdeal.τ).loc Cert.MinIdeal.main_arg1)
      ∧ m' ((c.tc : Thread Cert.MinRefIdeal.nD Cert.MinRefIdeal.τ).loc Cert.MinRefIdeal.main_arg2) = m ((c.tc : Thread Cert.MinIdeal.nD Cert.MinIdeal.τ).loc Cert.MinIdeal.main_arg2)
      ∧ m' ((c.tc : Thread Cert.MinRefIdeal.nD Cert.MinRefIdeal.τ).loc Cert.MinRefIdeal.main_arg3) = m ((c.tc : Thread Cert.MinIdeal.nD Cert.MinIdeal.τ).loc Cert.MinIdeal.main_arg3)) →
    ∃ (v0 : (c : Dev Cert.MinIdeal.nD) → Buf (Elt Ideal) ((c.tc : Thread Cert.MinIdeal.nD Cert.MinIdeal.τ).loc Cert.MinIdeal.main_v32_0)) (v1 : (c : Dev Cert.MinIdeal.nD) → Buf (Elt Ideal) ((c.tc : Thread Cert.MinIdeal.nD Cert.MinIdeal.τ).loc Cert.MinIdeal.main_v32_1)) (v2 : (c : Dev Cert.MinIdeal.nD) → Buf (Elt Ideal) ((c.tc : Thread Cert.MinIdeal.nD Cert.MinIdeal.τ).loc Cert.MinIdeal.main_v32_2)) (v3 : (c : Dev Cert.MinIdeal.nD) → Buf (Elt Ideal) ((c.tc : Thread Cert.MinIdeal.nD Cert.MinIdeal.τ).loc Cert.MinIdeal.main_v32_3)) (v4 : (c : Dev Cert.MinIdeal.nD) → Buf (Elt Ideal) ((c.tc : Thread Cert.MinIdeal.nD Cert.MinIdeal.τ).loc Cert.MinIdeal.main_v32_4)),
      θ_run (Cert.MinIdeal.defs (F := Ideal)) (onTc (τ := Cert.MinIdeal.τ) (Cert.MinIdeal.main (F := Ideal))) ⟨m, fun _ => 0, g⟩ (fun r => ∀ c : Dev Cert.MinIdeal.nD,
          r.2.mem ((c.tc : Thread Cert.MinIdeal.nD Cert.MinIdeal.τ).loc Cert.MinIdeal.main_v32_0) = v0 c
          ∧ r.2.mem ((c.tc : Thread Cert.MinIdeal.nD Cert.MinIdeal.τ).loc Cert.MinIdeal.main_v32_1) = v1 c
          ∧ r.2.mem ((c.tc : Thread Cert.MinIdeal.nD Cert.MinIdeal.τ).loc Cert.MinIdeal.main_v32_2) = v2 c
          ∧ r.2.mem ((c.tc : Thread Cert.MinIdeal.nD Cert.MinIdeal.τ).loc Cert.MinIdeal.main_v32_3) = v3 c
          ∧ r.2.mem ((c.tc : Thread Cert.MinIdeal.nD Cert.MinIdeal.τ).loc Cert.MinIdeal.main_v32_4) = v4 c
          ∧ r.2.mem ((c.tc : Thread Cert.MinIdeal.nD Cert.MinIdeal.τ).loc Cert.MinIdeal.main_arg0) = m ((c.tc : Thread Cert.MinIdeal.nD Cert.MinIdeal.τ).loc Cert.MinIdeal.main_arg0)
          ∧ r.2.mem ((c.tc : Thread Cert.MinIdeal.nD Cert.MinIdeal.τ).loc Cert.MinIdeal.main_arg1) = m ((c.tc : Thread Cert.MinIdeal.nD Cert.MinIdeal.τ).loc Cert.MinIdeal.main_arg1)
          ∧ r.2.mem ((c.tc : Thread Cert.MinIdeal.nD Cert.MinIdeal.τ).loc Cert.MinIdeal.main_arg2) = m ((c.tc : Thread Cert.MinIdeal.nD Cert.MinIdeal.τ).loc Cert.MinIdeal.main_arg2)
          ∧ r.2.mem ((c.tc : Thread Cert.MinIdeal.nD Cert.MinIdeal.τ).loc Cert.MinIdeal.main_arg3) = m ((c.tc : Thread Cert.MinIdeal.nD Cert.MinIdeal.τ).loc Cert.MinIdeal.main_arg3))
      ∧ θ_run (Cert.MinRefIdeal.defs (F := Ideal)) (onTc (τ := Cert.MinRefIdeal.τ) (Cert.MinRefIdeal.main (F := Ideal))) ⟨m', fun _ => 0, g'⟩ (fun r => ∀ c : Dev Cert.MinRefIdeal.nD,
          r.2.mem ((c.tc : Thread Cert.MinRefIdeal.nD Cert.MinRefIdeal.τ).loc Cert.MinRefIdeal.main_v39) = v0 c
          ∧ r.2.mem ((c.tc : Thread Cert.MinRefIdeal.nD Cert.MinRefIdeal.τ).loc Cert.MinRefIdeal.main_v42) = v1 c
          ∧ r.2.mem ((c.tc : Thread Cert.MinRefIdeal.nD Cert.MinRefIdeal.τ).loc Cert.MinRefIdeal.main_v43) = v2 c
          ∧ r.2.mem ((c.tc : Thread Cert.MinRefIdeal.nD Cert.MinRefIdeal.τ).loc Cert.MinRefIdeal.main_v44) = v3 c
          ∧ r.2.mem ((c.tc : Thread Cert.MinRefIdeal.nD Cert.MinRefIdeal.τ).loc Cert.MinRefIdeal.main_v46) = v4 c
          ∧ r.2.mem ((c.tc : Thread Cert.MinRefIdeal.nD Cert.MinRefIdeal.τ).loc Cert.MinRefIdeal.main_arg0) = m' ((c.tc : Thread Cert.MinRefIdeal.nD Cert.MinRefIdeal.τ).loc Cert.MinRefIdeal.main_arg0)
          ∧ r.2.mem ((c.tc : Thread Cert.MinRefIdeal.nD Cert.MinRefIdeal.τ).loc Cert.MinRefIdeal.main_arg1) = m' ((c.tc : Thread Cert.MinRefIdeal.nD Cert.MinRefIdeal.τ).loc Cert.MinRefIdeal.main_arg1)
          ∧ r.2.mem ((c.tc : Thread Cert.MinRefIdeal.nD Cert.MinRefIdeal.τ).loc Cert.MinRefIdeal.main_arg2) = m' ((c.tc : Thread Cert.MinRefIdeal.nD Cert.MinRefIdeal.τ).loc Cert.MinRefIdeal.main_arg2)
          ∧ r.2.mem ((c.tc : Thread Cert.MinRefIdeal.nD Cert.MinRefIdeal.τ).loc Cert.MinRefIdeal.main_arg3) = m' ((c.tc : Thread Cert.MinRefIdeal.nD Cert.MinRefIdeal.τ).loc Cert.MinRefIdeal.main_arg3))

def Claim : Prop :=
  ∃ (hAttn : Cert.Attn.Facts) (hAttnIdeal : Cert.AttnIdeal.Facts) (hAttnRefIdeal : Cert.AttnRefIdeal.Facts) (hMoe : Cert.Moe.Facts) (hMoeIdeal : Cert.MoeIdeal.Facts) (hMoeRefIdeal : Cert.MoeRefIdeal.Facts) (hFfn : Cert.Ffn.Facts) (hFfnIdeal : Cert.FfnIdeal.Facts) (hFfnRefIdeal : Cert.FfnRefIdeal.Facts) (hProj : Cert.Proj.Facts) (hProjIdeal : Cert.ProjIdeal.Facts) (hProjRefIdeal : Cert.ProjRefIdeal.Facts) (hMout : Cert.Mout.Facts) (hMoutIdeal : Cert.MoutIdeal.Facts) (hMoutRefIdeal : Cert.MoutRefIdeal.Facts) (hMin : Cert.Min.Facts) (hMinIdeal : Cert.MinIdeal.Facts) (hMinRefIdeal : Cert.MinRefIdeal.Facts) (hPre_attn_finite : Cert.Pre_attn_finite.Facts) (hPre_gate_weights : Cert.Pre_gate_weights.Facts),
    quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_Moe (hMoe := hMoe)
    ∧ quiescent_MoeIdeal (hMoeIdeal := hMoeIdeal)
    ∧ quiescent_MoeIdeal_pre_gate_weights (hMoeIdeal := hMoeIdeal) (hPre_gate_weights := hPre_gate_weights)
    ∧ quiescent_MoeRefIdeal (hMoeRefIdeal := hMoeRefIdeal)
    ∧ quiescent_MoeRefIdeal_pre_gate_weights (hMoeRefIdeal := hMoeRefIdeal) (hPre_gate_weights := hPre_gate_weights)
    ∧ quiescent_Ffn (hFfn := hFfn)
    ∧ quiescent_FfnIdeal (hFfnIdeal := hFfnIdeal)
    ∧ quiescent_FfnRefIdeal (hFfnRefIdeal := hFfnRefIdeal)
    ∧ quiescent_Proj (hProj := hProj)
    ∧ quiescent_ProjIdeal (hProjIdeal := hProjIdeal)
    ∧ quiescent_ProjRefIdeal (hProjRefIdeal := hProjRefIdeal)
    ∧ quiescent_Mout (hMout := hMout)
    ∧ quiescent_MoutIdeal (hMoutIdeal := hMoutIdeal)
    ∧ quiescent_MoutRefIdeal (hMoutRefIdeal := hMoutRefIdeal)
    ∧ quiescent_Min (hMin := hMin)
    ∧ quiescent_MinIdeal (hMinIdeal := hMinIdeal)
    ∧ quiescent_MinRefIdeal (hMinRefIdeal := hMinRefIdeal)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_Moe_MoeIdeal
    ∧ algebraic_MoeIdeal_MoeRefIdeal_pre_gate_weights (hMoeIdeal := hMoeIdeal) (hMoeRefIdeal := hMoeRefIdeal) (hPre_gate_weights := hPre_gate_weights)
    ∧ preserves_Ffn_FfnIdeal
    ∧ algebraic_FfnIdeal_FfnRefIdeal (hFfnIdeal := hFfnIdeal) (hFfnRefIdeal := hFfnRefIdeal)
    ∧ preserves_Proj_ProjIdeal
    ∧ algebraic_ProjIdeal_ProjRefIdeal (hProjIdeal := hProjIdeal) (hProjRefIdeal := hProjRefIdeal)
    ∧ preserves_Mout_MoutIdeal
    ∧ algebraic_MoutIdeal_MoutRefIdeal (hMoutIdeal := hMoutIdeal) (hMoutRefIdeal := hMoutRefIdeal)
    ∧ preserves_Min_MinIdeal
    ∧ algebraic_MinIdeal_MinRefIdeal (hMinIdeal := hMinIdeal) (hMinRefIdeal := hMinRefIdeal)
-- ==== Pre_attn_finite.lean ====
abbrev S1x16 : Shape := ⟨2, ![1, 16]⟩
abbrev S49152x1024 : Shape := ⟨2, ![49152, 1024]⟩
abbrev S49152x256 : Shape := ⟨2, ![49152, 256]⟩
abbrev S_ : Shape := ⟨0, ![]⟩

class Facts : Prop where
  bcast_S_S1x16 : S_.BroadcastsInDim S1x16 (![] : Fin 0 → Fin S1x16.rank)
  bitsLt_bf16_f32 : FTy.bits .bf16 < FTy.bits .f32
  bcast_S_S49152x1024 : S_.BroadcastsInDim S49152x1024 (![] : Fin 0 → Fin S49152x1024.rank)
  bcast_S_S49152x256 : S_.BroadcastsInDim S49152x256 (![] : Fin 0 → Fin S49152x256.rank)

variable [Facts]

def fn {F : FTy → Type} [FloatOps F] (main_arg0 : FVec F S1x16 .f32) (main_arg1 : FVec F S49152x1024 .bf16) (main_arg2 : FVec F S49152x256 .bf16) (main_arg3 : FVec F S49152x256 .bf16) : IVec S1x16 1 × IVec S49152x1024 1 × IVec S49152x256 1 :=
  let main_v0 : FVec F S1x16 .f32 := Host.absf main_arg0
  let main_cst : FVec F S_ .f32 := constant S_ .f32 0x7F800000#32
  let main_v1 : FVec F S1x16 .f32 := broadcastInDim S1x16 ![] bcast_S_S1x16 main_cst
  let main_v2 : IVec S1x16 1 := cmpf .olt main_v0 main_v1
  let main_v3 : FVec F S49152x1024 .f32 := (extf .f32 · bitsLt_bf16_f32) main_arg1
  let main_v4 : FVec F S49152x1024 .f32 := Host.absf main_v3
  let main_cst_0 : FVec F S_ .f32 := constant S_ .f32 0x7F800000#32
  let main_v5 : FVec F S49152x1024 .f32 := broadcastInDim S49152x1024 ![] bcast_S_S49152x1024 main_cst_0
  let main_v6 : IVec S49152x1024 1 := cmpf .olt main_v4 main_v5
  let main_v7 : FVec F S49152x256 .f32 := (extf .f32 · bitsLt_bf16_f32) main_arg2
  let main_v8 : FVec F S49152x256 .f32 := Host.absf main_v7
  let main_cst_1 : FVec F S_ .f32 := constant S_ .f32 0x7F800000#32
  let main_v9 : FVec F S49152x256 .f32 := broadcastInDim S49152x256 ![] bcast_S_S49152x256 main_cst_1
  let main_v10 : IVec S49152x256 1 := cmpf .olt main_v8 main_v9
  (main_v2, main_v6, main_v10)
-- ==== Pre_gate_weights.lean ====
abbrev S49152x1024 : Shape := ⟨2, ![49152, 1024]⟩
abbrev S49152x128 : Shape := ⟨2, ![49152, 128]⟩
abbrev S1x8x1024x3584 : Shape := ⟨4, ![1, 8, 1024, 3584]⟩
abbrev S1x8x3584x1024 : Shape := ⟨4, ![1, 8, 3584, 1024]⟩
abbrev S_ : Shape := ⟨0, ![]⟩

class Facts : Prop where
  bcast_S_S49152x128 : S_.BroadcastsInDim S49152x128 (![] : Fin 0 → Fin S49152x128.rank)

variable [Facts]

def fn {F : FTy → Type} [FloatOps F] (main_arg0 : FVec F S49152x1024 .f32) (main_arg1 : FVec F S49152x1024 .bf16) (main_arg2 : FVec F S49152x128 .f32) (main_arg3 : FVec F S1x8x1024x3584 .f32) (main_arg4 : FVec F S1x8x1024x3584 .f32) (main_arg5 : FVec F S1x8x3584x1024 .f32) : IVec S49152x128 1 :=
  let main_cst : FVec F S_ .f32 := constant S_ .f32 0x00000000#32
  let main_v0 : FVec F S49152x128 .f32 := broadcastInDim S49152x128 ![] bcast_S_S49152x128 main_cst
  let main_v1 : IVec S49152x128 1 := cmpf .oge main_arg2 main_v0
  let main_cst_0 : FVec F S_ .f32 := constant S_ .f32 0x7F800000#32
  let main_v2 : FVec F S49152x128 .f32 := broadcastInDim S49152x128 ![] bcast_S_S49152x128 main_cst_0
  let main_v3 : IVec S49152x128 1 := cmpf .olt main_arg2 main_v2
  let main_v4 : IVec S49152x128 1 := andi main_v1 main_v3
  main_v4
-- ==== Attn.lean ====
abbrev S1x16 : Shape := ⟨2, ![1, 16]⟩
abbrev S49152x1024 : Shape := ⟨2, ![49152, 1024]⟩
abbrev S49152x256 : Shape := ⟨2, ![49152, 256]⟩
abbrev S16 : Shape := ⟨1, ![16]⟩
abbrev S128x1024 : Shape := ⟨2, ![128, 1024]⟩
abbrev S128x256 : Shape := ⟨2, ![128, 256]⟩
abbrev S128x384 : Shape := ⟨2, ![128, 384]⟩
abbrev S384x256 : Shape := ⟨2, ![384, 256]⟩
abbrev S384x128 : Shape := ⟨2, ![384, 128]⟩
abbrev S128x128 : Shape := ⟨2, ![128, 128]⟩
abbrev S1 : Shape := ⟨1, ![1]⟩
abbrev S128 : Shape := ⟨1, ![128]⟩
abbrev S128x1 : Shape := ⟨2, ![128, 1]⟩

abbrev nBuf : Space → Nat
  | .hbm => 6
  | .vmem => 16
  | .smem => 1
  | _ => 0

abbrev bufTy : (tb : Table) → Fin (tcTables nBuf tb) → BufTy
  | .hbm, ⟨0, _⟩ => ⟨S1x16, .f32⟩
  | .hbm, ⟨1, _⟩ => ⟨S49152x1024, .bf16⟩
  | .hbm, ⟨2, _⟩ => ⟨S49152x256, .bf16⟩
  | .hbm, ⟨3, _⟩ => ⟨S49152x256, .bf16⟩
  | .hbm, ⟨4, _⟩ => ⟨S16, .f32⟩
  | .hbm, ⟨5, _⟩ => ⟨S49152x1024, .bf16⟩
  | .local _ .vmem, ⟨0, _⟩ => ⟨S128x1024, .bf16⟩
  | .local _ .vmem, ⟨1, _⟩ => ⟨S128x1024, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S128x256, .bf16⟩
  | .local _ .vmem, ⟨11, _⟩ => ⟨S128x256, .bf16⟩
  | .local _ .vmem, ⟨12, _⟩ => ⟨S128x256, .bf16⟩
  | .local _ .vmem, ⟨13, _⟩ => ⟨S128x256, .bf16⟩
  | .local _ .vmem, ⟨14, _⟩ => ⟨S128x1024, .bf16⟩
  | .local _ .vmem, ⟨15, _⟩ => ⟨S128x1024, .bf16⟩
  | .local _ .smem, ⟨0, _⟩ => ⟨S16, .f32⟩
  | _, _ => ⟨S1x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![384], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c383_i32 : BitVec 32 := 383#32
  let v1 : BitVec 32 := Scalar.minsi v0 c383_i32
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c383_i32 : BitVec 32 := 383#32
  let v1 : BitVec 32 := Scalar.minsi v0 c383_i32
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AttnRefIdeal.lean ====
abbrev S1x16 : Shape := ⟨2, ![1, 16]⟩
abbrev S49152x1024 : Shape := ⟨2, ![49152, 1024]⟩
abbrev S49152x256 : Shape := ⟨2, ![49152, 256]⟩
abbrev S16384x1024 : Shape := ⟨2, ![16384, 1024]⟩
abbrev S4x4096x1024 : Shape := ⟨3, ![4, 4096, 1024]⟩
abbrev S32768x1024 : Shape := ⟨2, ![32768, 1024]⟩
abbrev S4x8192x1024 : Shape := ⟨3, ![4, 8192, 1024]⟩
abbrev S16384x256 : Shape := ⟨2, ![16384, 256]⟩
abbrev S4x4096x256 : Shape := ⟨3, ![4, 4096, 256]⟩
abbrev S32768x256 : Shape := ⟨2, ![32768, 256]⟩
abbrev S4x8192x256 : Shape := ⟨3, ![4, 8192, 256]⟩
abbrev S16 : Shape := ⟨1, ![16]⟩
abbrev S4x4096x4x4x64 : Shape := ⟨5, ![4, 4096, 4, 4, 64]⟩
abbrev S4x4096x4x64 : Shape := ⟨4, ![4, 4096, 4, 64]⟩
abbrev S4096 : Shape := ⟨1, ![4096]⟩
abbrev S4x4x4096x4096x4 : Shape := ⟨5, ![4, 4, 4096, 4096, 4]⟩
abbrev S4x4x4x4096x4096 : Shape := ⟨5, ![4, 4, 4, 4096, 4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S4x4x1x1 : Shape := ⟨4, ![4, 4, 1, 1]⟩
abbrev S4x4x4x4096 : Shape := ⟨4, ![4, 4, 4, 4096]⟩
abbrev S4x4x4x4096x1 : Shape := ⟨5, ![4, 4, 4, 4096, 1]⟩
abbrev S1x4x4x1x1 : Shape := ⟨5, ![1, 4, 4, 1, 1]⟩
abbrev S4x4x64x4x4096 : Shape := ⟨5, ![4, 4, 64, 4, 4096]⟩
abbrev S4x8192x4x4x64 : Shape := ⟨5, ![4, 8192, 4, 4, 64]⟩
abbrev S4x8192x4x64 : Shape := ⟨4, ![4, 8192, 4, 64]⟩
abbrev S8192 : Shape := ⟨1, ![8192]⟩
abbrev S4x4x8192x8192x4 : Shape := ⟨5, ![4, 4, 8192, 8192, 4]⟩
abbrev S4x4x4x8192x8192 : Shape := ⟨5, ![4, 4, 4, 8192, 8192]⟩
abbrev S8192x1 : Shape := ⟨2, ![8192, 1]⟩
abbrev S1x8192 : Shape := ⟨2, ![1, 8192]⟩
abbrev S8192x8192 : Shape := ⟨2, ![8192, 8192]⟩
abbrev S4x4x4x8192 : Shape := ⟨4, ![4, 4, 4, 8192]⟩
abbrev S4x4x4x8192x1 : Shape := ⟨5, ![4, 4, 4, 8192, 1]⟩
abbrev S4x4x64x4x8192 : Shape := ⟨5, ![4, 4, 64, 4, 8192]⟩

abbrev nBuf : Space → Nat
  | .hbm => 109
  | .vmem => 0
  | .smem => 0
  | _ => 0

abbrev bufTy : (tb : Table) → Fin (tcTables nBuf tb) → BufTy
  | .hbm, ⟨0, _⟩ => ⟨S1x16, .f32⟩
  | .hbm, ⟨1, _⟩ => ⟨S49152x1024, .bf16⟩
  | .hbm, ⟨2, _⟩ => ⟨S49152x256, .bf16⟩
  | .hbm, ⟨3, _⟩ => ⟨S49152x256, .bf16⟩
  | .hbm, ⟨4, _⟩ => ⟨S49152x1024, .f32⟩
  | .hbm, ⟨5, _⟩ => ⟨S49152x256, .f32⟩
  | .hbm, ⟨6, _⟩ => ⟨S49152x256, .f32⟩
  | .hbm, ⟨7, _⟩ => ⟨S16384x1024, .f32⟩
  | .hbm, ⟨8, _⟩ => ⟨S4x4096x1024, .f32⟩
  | .hbm, ⟨9, _⟩ => ⟨S32768x1024, .f32⟩
  | .hbm, ⟨10, _⟩ => ⟨S4x8192x1024, .f32⟩
  | .hbm, ⟨11, _⟩ => ⟨S16384x256, .f32⟩
  | .hbm, ⟨12, _⟩ => ⟨S4x4096x256, .f32⟩
  | .hbm, ⟨13, _⟩ => ⟨S32768x256, .f32⟩
  | .hbm, ⟨14, _⟩ => ⟨S4x8192x256, .f32⟩
  | .hbm, ⟨15, _⟩ => ⟨S16384x256, .f32⟩
  | .hbm, ⟨16, _⟩ => ⟨S4x4096x256, .f32⟩
  | .hbm, ⟨17, _⟩ => ⟨S32768x256, .f32⟩
  | .hbm, ⟨18, _⟩ => ⟨S4x8192x256, .f32⟩
  | .hbm, ⟨19, _⟩ => ⟨S16, .f32⟩
  | .hbm, ⟨20, _⟩ => ⟨S4x4096x4x4x64, .f32⟩
  | .hbm, ⟨21, _⟩ => ⟨S4x4096x4x64, .f32⟩
  | .hbm, ⟨22, _⟩ => ⟨S4x4096x4x64, .f32⟩
  | .hbm, ⟨23, _⟩ => ⟨S4096, .i32⟩
  | .hbm, ⟨24, _⟩ => ⟨S4x4x4096x4096x4, .f32⟩
  | .hbm, ⟨25, _⟩ => ⟨S4x4x4x4096x4096, .f32⟩
  | .hbm, ⟨26, _⟩ => ⟨S4096x1, .i32⟩
  | .hbm, ⟨27, _⟩ => ⟨S1x4096, .i32⟩
  | .hbm, ⟨28, _⟩ => ⟨S4096x4096, .i32⟩
  | .hbm, ⟨29, _⟩ => ⟨S4096x4096, .i32⟩
  | .hbm, ⟨30, _⟩ => ⟨S4096x4096, .i32⟩
  | .hbm, ⟨31, _⟩ => ⟨S4096x4096, .i32⟩
  | .hbm, ⟨32, _⟩ => ⟨S_, .i32⟩
  | .hbm, ⟨33, _⟩ => ⟨S4096x4096, .i32⟩
  | .hbm, ⟨34, _⟩ => ⟨S4096x4096, .i1⟩
  | .hbm, ⟨35, _⟩ => ⟨S_, .f32⟩
  | .hbm, ⟨36, _⟩ => ⟨S_, .f32⟩
  | .hbm, ⟨37, _⟩ => ⟨S4x4x4x4096x4096, .i1⟩
  | .hbm, ⟨38, _⟩ => ⟨S4x4x4x4096x4096, .f32⟩
  | .hbm, ⟨39, _⟩ => ⟨S4x4x4x4096x4096, .f32⟩
  | .hbm, ⟨40, _⟩ => ⟨S4x4x1x1, .f32⟩
  | .hbm, ⟨41, _⟩ => ⟨S_, .f32⟩
  | .hbm, ⟨42, _⟩ => ⟨S4x4x4x4096, .f32⟩
  | .hbm, ⟨43, _⟩ => ⟨S4x4x4x4096x1, .f32⟩
  | .hbm, ⟨44, _⟩ => ⟨S1x4x4x1x1, .f32⟩
  | .hbm, ⟨45, _⟩ => ⟨S4x4x4x4096x1, .f32⟩
  | .hbm, ⟨46, _⟩ => ⟨S4x4x4x4096x1, .f32⟩
  | .hbm, ⟨47, _⟩ => ⟨S4x4x4x4096x4096, .f32⟩
  | .hbm, ⟨48, _⟩ => ⟨S4x4x4x4096x4096, .f32⟩
  | .hbm, ⟨49, _⟩ => ⟨S4x4x4x4096x4096, .f32⟩
  | .hbm, ⟨50, _⟩ => ⟨S_, .f32⟩
  | .hbm, ⟨51, _⟩ => ⟨S4x4x4x4096, .f32⟩
  | .hbm, ⟨52, _⟩ => ⟨S4x4x4x4096x1, .f32⟩
  | .hbm, ⟨53, _⟩ => ⟨S1x4x4x1x1, .f32⟩
  | .hbm, ⟨54, _⟩ => ⟨S4x4x4x4096x1, .f32⟩
  | .hbm, ⟨55, _⟩ => ⟨S4x4x4x4096x1, .f32⟩
  | .hbm, ⟨56, _⟩ => ⟨S4x4x4x4096x1, .f32⟩
  | .hbm, ⟨57, _⟩ => ⟨S4x4x4x4096x1, .f32⟩
  | .hbm, ⟨58, _⟩ => ⟨S4x4x4x4096x4096, .f32⟩
  | .hbm, ⟨59, _⟩ => ⟨S4x4x4x4096x4096, .f32⟩
  | .hbm, ⟨60, _⟩ => ⟨S4x4x64x4x4096, .f32⟩
  | .hbm, ⟨61, _⟩ => ⟨S4x4096x4x4x64, .f32⟩
  | .hbm, ⟨62, _⟩ => ⟨S16384x1024, .f32⟩
  | .hbm, ⟨63, _⟩ => ⟨S16, .f32⟩
  | .hbm, ⟨64, _⟩ => ⟨S4x8192x4x4x64, .f32⟩
  | .hbm, ⟨65, _⟩ => ⟨S4x8192x4x64, .f32⟩
  | .hbm, ⟨66, _⟩ => ⟨S4x8192x4x64, .f32⟩
  | .hbm, ⟨67, _⟩ => ⟨S8192, .i32⟩
  | .hbm, ⟨68, _⟩ => ⟨S4x4x8192x8192x4, .f32⟩
  | .hbm, ⟨69, _⟩ => ⟨S4x4x4x8192x8192, .f32⟩
  | .hbm, ⟨70, _⟩ => ⟨S8192x1, .i32⟩
  | .hbm, ⟨71, _⟩ => ⟨S1x8192, .i32⟩
  | .hbm, ⟨72, _⟩ => ⟨S8192x8192, .i32⟩
  | .hbm, ⟨73, _⟩ => ⟨S8192x8192, .i32⟩
  | .hbm, ⟨74, _⟩ => ⟨S8192x8192, .i32⟩
  | .hbm, ⟨75, _⟩ => ⟨S8192x8192, .i32⟩
  | .hbm, ⟨76, _⟩ => ⟨S_, .i32⟩
  | .hbm, ⟨77, _⟩ => ⟨S8192x8192, .i32⟩
  | .hbm, ⟨78, _⟩ => ⟨S8192x8192, .i1⟩
  | .hbm, ⟨79, _⟩ => ⟨S_, .f32⟩
  | .hbm, ⟨80, _⟩ => ⟨S_, .f32⟩
  | .hbm, ⟨81, _⟩ => ⟨S4x4x4x8192x8192, .i1⟩
  | .hbm, ⟨82, _⟩ => ⟨S4x4x4x8192x8192, .f32⟩
  | .hbm, ⟨83, _⟩ => ⟨S4x4x4x8192x8192, .f32⟩
  | .hbm, ⟨84, _⟩ => ⟨S4x4x1x1, .f32⟩
  | .hbm, ⟨85, _⟩ => ⟨S_, .f32⟩
  | .hbm, ⟨86, _⟩ => ⟨S4x4x4x8192, .f32⟩
  | .hbm, ⟨87, _⟩ => ⟨S4x4x4x8192x1, .f32⟩
  | .hbm, ⟨88, _⟩ => ⟨S1x4x4x1x1, .f32⟩
  | .hbm, ⟨89, _⟩ => ⟨S4x4x4x8192x1, .f32⟩
  | .hbm, ⟨90, _⟩ => ⟨S4x4x4x8192x1, .f32⟩
  | .hbm, ⟨91, _⟩ => ⟨S4x4x4x8192x8192, .f32⟩
  | .hbm, ⟨92, _⟩ => ⟨S4x4x4x8192x8192, .f32⟩
  | .hbm, ⟨93, _⟩ => ⟨S4x4x4x8192x8192, .f32⟩
  | .hbm, ⟨94, _⟩ => ⟨S_, .f32⟩
  | .hbm, ⟨95, _⟩ => ⟨S4x4x4x8192, .f32⟩
  | .hbm, ⟨96, _⟩ => ⟨S4x4x4x8192x1, .f32⟩
  | .hbm, ⟨97, _⟩ => ⟨S1x4x4x1x1, .f32⟩
  | .hbm, ⟨98, _⟩ => ⟨S4x4x4x8192x1, .f32⟩
  | .hbm, ⟨99, _⟩ => ⟨S4x4x4x8192x1, .f32⟩
  | .hbm, ⟨100, _⟩ => ⟨S4x4x4x8192x1, .f32⟩
  | .hbm, ⟨101, _⟩ => ⟨S4x4x4x8192x1, .f32⟩
  | .hbm, ⟨102, _⟩ => ⟨S4x4x4x8192x8192, .f32⟩
  | .hbm, ⟨103, _⟩ => ⟨S4x4x4x8192x8192, .f32⟩
  | .hbm, ⟨104, _⟩ => ⟨S4x4x64x4x8192, .f32⟩
  | .hbm, ⟨105, _⟩ => ⟨S4x8192x4x4x64, .f32⟩
  | .hbm, ⟨106, _⟩ => ⟨S32768x1024, .f32⟩
  | .hbm, ⟨107, _⟩ => ⟨S49152x1024, .f32⟩
  | .hbm, ⟨108, _⟩ => ⟨S49152x1024, .bf16⟩
  | _, _ => ⟨S1x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_c : Ref sig .tc := ⟨.hbm, 32, rfl⟩
abbrev main_v28 : Ref sig .tc := ⟨.hbm, 33, rfl⟩
abbrev main_v29 : Ref sig .tc := ⟨.hbm, 34, rfl⟩
abbrev main_cst : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v30 : Ref sig .tc := ⟨.hbm, 39, rfl⟩
abbrev main_v31 : Ref sig .tc := ⟨.hbm, 40, rfl⟩
abbrev main_cst_0 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_1 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_c_2 : Ref sig .tc := ⟨.hbm, 76, rfl⟩
abbrev main_v65 : Ref sig .tc := ⟨.hbm, 77, rfl⟩
abbrev main_v66 : Ref sig .tc := ⟨.hbm, 78, rfl⟩
abbrev main_cst_3 : Ref sig .tc := ⟨.hbm, 79, rfl⟩
abbrev main_call1_v0 : Ref sig .tc := ⟨.hbm, 80, rfl⟩
abbrev main_call1_v1 : Ref sig .tc := ⟨.hbm, 81, rfl⟩
abbrev main_call1_v2 : Ref sig .tc := ⟨.hbm, 82, rfl⟩
abbrev main_v67 : Ref sig .tc := ⟨.hbm, 83, rfl⟩
abbrev main_v68 : Ref sig .tc := ⟨.hbm, 84, rfl⟩
abbrev main_cst_4 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_cst_5 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩

abbrev nD : Nat := 1
abbrev τ : Topo := Topo.v7x

variable {F : FTy → Type} [FloatOps F]
-- ==== Moe.lean ====
abbrev S49152x1024 : Shape := ⟨2, ![49152, 1024]⟩
abbrev S49152x128 : Shape := ⟨2, ![49152, 128]⟩
abbrev S1x8x1024x3584 : Shape := ⟨4, ![1, 8, 1024, 3584]⟩
abbrev S1x8x3584x1024 : Shape := ⟨4, ![1, 8, 3584, 1024]⟩
abbrev S8x1024x3584 : Shape := ⟨3, ![8, 1024, 3584]⟩
abbrev S8x3584x1024 : Shape := ⟨3, ![8, 3584, 1024]⟩
abbrev S1024x1024 : Shape := ⟨2, ![1024, 1024]⟩
abbrev S1024x128 : Shape := ⟨2, ![1024, 128]⟩
abbrev S1x1024x512 : Shape := ⟨3, ![1, 1024, 512]⟩
abbrev S1x512x1024 : Shape := ⟨3, ![1, 512, 1024]⟩
abbrev S1024 : Shape := ⟨1, ![1024]⟩
abbrev S1024x1 : Shape := ⟨2, ![1024, 1]⟩
abbrev S1024x512 : Shape := ⟨2, ![1024, 512]⟩
abbrev S512x1024 : Shape := ⟨2, ![512, 1024]⟩

abbrev nBuf : Space → Nat
  | .hbm => 13
  | .vmem => 15
  | .smem => 0
  | _ => 0

abbrev bufTy : (tb : Table) → Fin (tcTables nBuf tb) → BufTy
  | .hbm, ⟨0, _⟩ => ⟨S49152x1024, .f32⟩
  | .hbm, ⟨1, _⟩ => ⟨S49152x1024, .bf16⟩
  | .hbm, ⟨2, _⟩ => ⟨S49152x128, .f32⟩
  | .hbm, ⟨3, _⟩ => ⟨S1x8x1024x3584, .f32⟩
  | .hbm, ⟨4, _⟩ => ⟨S1x8x1024x3584, .f32⟩
  | .hbm, ⟨5, _⟩ => ⟨S1x8x3584x1024, .f32⟩
  | .hbm, ⟨6, _⟩ => ⟨S8x1024x3584, .f32⟩
  | .hbm, ⟨7, _⟩ => ⟨S8x1024x3584, .bf16⟩
  | .hbm, ⟨8, _⟩ => ⟨S8x1024x3584, .f32⟩
  | .hbm, ⟨9, _⟩ => ⟨S8x1024x3584, .bf16⟩
  | .hbm, ⟨10, _⟩ => ⟨S8x3584x1024, .f32⟩
  | .hbm, ⟨11, _⟩ => ⟨S8x3584x1024, .bf16⟩
  | .hbm, ⟨12, _⟩ => ⟨S49152x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x128, .f32⟩
  | .local _ .vmem, ⟨5, _⟩ => ⟨S1024x128, .f32⟩
  | .local _ .vmem, ⟨6, _⟩ => ⟨S1x1024x512, .bf16⟩
  | .local _ .vmem, ⟨7, _⟩ => ⟨S1x1024x512, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x512x1024, .bf16⟩
  | .local _ .vmem, ⟨11, _⟩ => ⟨S1x512x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | _, _ => ⟨S49152x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![48, 8, 7], ![false, false, false]⟩

def k0_cond2 (i : grid0.Coords) : BitVec 1 :=
  let arg1 : BitVec 32 := BitVec.ofNat 32 (i 1).val
  let c7_i32 : BitVec 32 := 7#32
  let v40 : BitVec 1 := Scalar.cmpi .eq arg1 c7_i32
  let arg2 : BitVec 32 := BitVec.ofNat 32 (i 2).val
  let c6_i32 : BitVec 32 := 6#32
  let v41 : BitVec 1 := Scalar.cmpi .eq arg2 c6_i32
  let v42 : BitVec 1 := Scalar.andi v40 v41
  let v43 : BitVec 32 := Scalar.extui v42
  let c0_i32_25 : BitVec 32 := 0#32
  let v44 : BitVec 1 := Scalar.cmpi .ne v43 c0_i32_25
  v44

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]
-- ==== MoeRefIdeal.lean ====
abbrev S49152x1024 : Shape := ⟨2, ![49152, 1024]⟩
abbrev S49152x128 : Shape := ⟨2, ![49152, 128]⟩
abbrev S1x8x1024x3584 : Shape := ⟨4, ![1, 8, 1024, 3584]⟩
abbrev S1x8x3584x1024 : Shape := ⟨4, ![1, 8, 3584, 1024]⟩
abbrev S8x1024x3584 : Shape := ⟨3, ![8, 1024, 3584]⟩
abbrev S8x3584x1024 : Shape := ⟨3, ![8, 3584, 1024]⟩
abbrev S8x3584x49152 : Shape := ⟨3, ![8, 3584, 49152]⟩
abbrev S8x49152x3584 : Shape := ⟨3, ![8, 49152, 3584]⟩
abbrev S_ : Shape := ⟨0, ![]⟩
abbrev S8x49152x1024 : Shape := ⟨3, ![8, 49152, 1024]⟩
abbrev S49152x8 : Shape := ⟨2, ![49152, 8]⟩
abbrev S8x49152 : Shape := ⟨2, ![8, 49152]⟩
abbrev S8x49152x1 : Shape := ⟨3, ![8, 49152, 1]⟩

abbrev nBuf : Space → Nat
  | .hbm => 33
  | .vmem => 0
  | .smem => 0
  | _ => 0

abbrev bufTy : (tb : Table) → Fin (tcTables nBuf tb) → BufTy
  | .hbm, ⟨0, _⟩ => ⟨S49152x1024, .f32⟩
  | .hbm, ⟨1, _⟩ => ⟨S49152x1024, .bf16⟩
  | .hbm, ⟨2, _⟩ => ⟨S49152x128, .f32⟩
  | .hbm, ⟨3, _⟩ => ⟨S1x8x1024x3584, .f32⟩
  | .hbm, ⟨4, _⟩ => ⟨S1x8x1024x3584, .f32⟩
  | .hbm, ⟨5, _⟩ => ⟨S1x8x3584x1024, .f32⟩
  | .hbm, ⟨6, _⟩ => ⟨S49152x1024, .f32⟩
  | .hbm, ⟨7, _⟩ => ⟨S8x1024x3584, .f32⟩
  | .hbm, ⟨8, _⟩ => ⟨S8x1024x3584, .f32⟩
  | .hbm, ⟨9, _⟩ => ⟨S8x3584x1024, .f32⟩
  | .hbm, ⟨10, _⟩ => ⟨S8x3584x49152, .f32⟩
  | .hbm, ⟨11, _⟩ => ⟨S8x49152x3584, .f32⟩
  | .hbm, ⟨12, _⟩ => ⟨S8x49152x3584, .f32⟩
  | .hbm, ⟨13, _⟩ => ⟨S8x49152x3584, .f32⟩
  | .hbm, ⟨14, _⟩ => ⟨S_, .f32⟩
  | .hbm, ⟨15, _⟩ => ⟨S8x49152x3584, .f32⟩
  | .hbm, ⟨16, _⟩ => ⟨S8x49152x3584, .f32⟩
  | .hbm, ⟨17, _⟩ => ⟨S_, .f32⟩
  | .hbm, ⟨18, _⟩ => ⟨S8x49152x3584, .f32⟩
  | .hbm, ⟨19, _⟩ => ⟨S8x49152x3584, .f32⟩
  | .hbm, ⟨20, _⟩ => ⟨S8x49152x3584, .f32⟩
  | .hbm, ⟨21, _⟩ => ⟨S8x3584x49152, .f32⟩
  | .hbm, ⟨22, _⟩ => ⟨S8x49152x3584, .f32⟩
  | .hbm, ⟨23, _⟩ => ⟨S8x49152x3584, .f32⟩
  | .hbm, ⟨24, _⟩ => ⟨S8x49152x1024, .f32⟩
  | .hbm, ⟨25, _⟩ => ⟨S49152x8, .f32⟩
  | .hbm, ⟨26, _⟩ => ⟨S8x49152, .f32⟩
  | .hbm, ⟨27, _⟩ => ⟨S8x49152x1, .f32⟩
  | .hbm, ⟨28, _⟩ => ⟨S8x49152x1024, .f32⟩
  | .hbm, ⟨29, _⟩ => ⟨S8x49152x1024, .f32⟩
  | .hbm, ⟨30, _⟩ => ⟨S_, .f32⟩
  | .hbm, ⟨31, _⟩ => ⟨S49152x1024, .f32⟩
  | .hbm, ⟨32, _⟩ => ⟨S49152x1024, .f32⟩
  | _, _ => ⟨S49152x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst : Ref sig .tc := ⟨.hbm, 30, rfl⟩
abbrev main_v16 : Ref sig .tc := ⟨.hbm, 31, rfl⟩
abbrev main_v17 : Ref sig .tc := ⟨.hbm, 32, rfl⟩

abbrev nD : Nat := 1
abbrev τ : Topo := Topo.v7x

variable {F : FTy → Type} [FloatOps F]
-- ==== Ffn.lean ====
abbrev S49152x1024 : Shape := ⟨2, ![49152, 1024]⟩
abbrev S2x1024 : Shape := ⟨2, ![2, 1024]⟩
abbrev S1x1024x3584 : Shape := ⟨3, ![1, 1024, 3584]⟩
abbrev S1x3584x1024 : Shape := ⟨3, ![1, 3584, 1024]⟩
abbrev S1x1024 : Shape := ⟨2, ![1, 1024]⟩
abbrev S1024 : Shape := ⟨1, ![1024]⟩
abbrev S1024x3584 : Shape := ⟨2, ![1024, 3584]⟩
abbrev S3584x1024 : Shape := ⟨2, ![3584, 1024]⟩
abbrev S1024x1024 : Shape := ⟨2, ![1024, 1024]⟩
abbrev S1024x512 : Shape := ⟨2, ![1024, 512]⟩
abbrev S512x1024 : Shape := ⟨2, ![512, 1024]⟩
abbrev S1024x1 : Shape := ⟨2, ![1024, 1]⟩

abbrev nBuf : Space → Nat
  | .hbm => 15
  | .vmem => 13
  | .smem => 0
  | _ => 0

abbrev bufTy : (tb : Table) → Fin (tcTables nBuf tb) → BufTy
  | .hbm, ⟨0, _⟩ => ⟨S49152x1024, .f32⟩
  | .hbm, ⟨1, _⟩ => ⟨S2x1024, .f32⟩
  | .hbm, ⟨2, _⟩ => ⟨S1x1024x3584, .f32⟩
  | .hbm, ⟨3, _⟩ => ⟨S1x1024x3584, .f32⟩
  | .hbm, ⟨4, _⟩ => ⟨S1x3584x1024, .f32⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S1024x3584, .f32⟩
  | .hbm, ⟨9, _⟩ => ⟨S1024x3584, .bf16⟩
  | .hbm, ⟨10, _⟩ => ⟨S1024x3584, .f32⟩
  | .hbm, ⟨11, _⟩ => ⟨S1024x3584, .bf16⟩
  | .hbm, ⟨12, _⟩ => ⟨S3584x1024, .f32⟩
  | .hbm, ⟨13, _⟩ => ⟨S3584x1024, .bf16⟩
  | .hbm, ⟨14, _⟩ => ⟨S49152x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S512x1024, .bf16⟩
  | .local _ .vmem, ⟨8, _⟩ => ⟨S512x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .f32⟩
  | _, _ => ⟨S49152x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![48, 7], ![false, false]⟩

def k0_cond2 (i : grid0.Coords) : BitVec 1 :=
  let arg1 : BitVec 32 := BitVec.ofNat 32 (i 1).val
  let c6_i32 : BitVec 32 := 6#32
  let v28 : BitVec 1 := Scalar.cmpi .eq arg1 c6_i32
  let v29 : BitVec 32 := Scalar.extui v28
  let c0_i32_17 : BitVec 32 := 0#32
  let v30 : BitVec 1 := Scalar.cmpi .ne v29 c0_i32_17
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnRefIdeal.lean ====
abbrev S49152x1024 : Shape := ⟨2, ![49152, 1024]⟩
abbrev S2x1024 : Shape := ⟨2, ![2, 1024]⟩
abbrev S1x1024x3584 : Shape := ⟨3, ![1, 1024, 3584]⟩
abbrev S1x3584x1024 : Shape := ⟨3, ![1, 3584, 1024]⟩
abbrev S1x1024 : Shape := ⟨2, ![1, 1024]⟩
abbrev S1024 : Shape := ⟨1, ![1024]⟩
abbrev S_ : Shape := ⟨0, ![]⟩
abbrev S49152 : Shape := ⟨1, ![49152]⟩
abbrev S49152x1 : Shape := ⟨2, ![49152, 1]⟩
abbrev S1024x3584 : Shape := ⟨2, ![1024, 3584]⟩
abbrev S49152x3584 : Shape := ⟨2, ![49152, 3584]⟩
abbrev S3584x1024 : Shape := ⟨2, ![3584, 1024]⟩

abbrev nBuf : Space → Nat
  | .hbm => 40
  | .vmem => 0
  | .smem => 0
  | _ => 0

abbrev bufTy : (tb : Table) → Fin (tcTables nBuf tb) → BufTy
  | .hbm, ⟨0, _⟩ => ⟨S49152x1024, .f32⟩
  | .hbm, ⟨1, _⟩ => ⟨S2x1024, .f32⟩
  | .hbm, ⟨2, _⟩ => ⟨S1x1024x3584, .f32⟩
  | .hbm, ⟨3, _⟩ => ⟨S1x1024x3584, .f32⟩
  | .hbm, ⟨4, _⟩ => ⟨S1x3584x1024, .f32⟩
  | .hbm, ⟨5, _⟩ => ⟨S1x1024, .f32⟩
  | .hbm, ⟨6, _⟩ => ⟨S1024, .f32⟩
  | .hbm, ⟨7, _⟩ => ⟨S49152x1024, .f32⟩
  | .hbm, ⟨8, _⟩ => ⟨S_, .f32⟩
  | .hbm, ⟨9, _⟩ => ⟨S49152, .f32⟩
  | .hbm, ⟨10, _⟩ => ⟨S49152x1, .f32⟩
  | .hbm, ⟨11, _⟩ => ⟨S_, .f32⟩
  | .hbm, ⟨12, _⟩ => ⟨S49152x1, .f32⟩
  | .hbm, ⟨13, _⟩ => ⟨S49152x1, .f32⟩
  | .hbm, ⟨14, _⟩ => ⟨S_, .f32⟩
  | .hbm, ⟨15, _⟩ => ⟨S49152x1, .f32⟩
  | .hbm, ⟨16, _⟩ => ⟨S49152x1, .f32⟩
  | .hbm, ⟨17, _⟩ => ⟨S49152x1, .f32⟩
  | .hbm, ⟨18, _⟩ => ⟨S49152x1024, .f32⟩
  | .hbm, ⟨19, _⟩ => ⟨S49152x1024, .f32⟩
  | .hbm, ⟨20, _⟩ => ⟨S1x1024, .f32⟩
  | .hbm, ⟨21, _⟩ => ⟨S49152x1024, .f32⟩
  | .hbm, ⟨22, _⟩ => ⟨S49152x1024, .f32⟩
  | .hbm, ⟨23, _⟩ => ⟨S1024x3584, .f32⟩
  | .hbm, ⟨24, _⟩ => ⟨S49152x3584, .f32⟩
  | .hbm, ⟨25, _⟩ => ⟨S49152x3584, .f32⟩
  | .hbm, ⟨26, _⟩ => ⟨S49152x3584, .f32⟩
  | .hbm, ⟨27, _⟩ => ⟨S_, .f32⟩
  | .hbm, ⟨28, _⟩ => ⟨S49152x3584, .f32⟩
  | .hbm, ⟨29, _⟩ => ⟨S49152x3584, .f32⟩
  | .hbm, ⟨30, _⟩ => ⟨S_, .f32⟩
  | .hbm, ⟨31, _⟩ => ⟨S49152x3584, .f32⟩
  | .hbm, ⟨32, _⟩ => ⟨S49152x3584, .f32⟩
  | .hbm, ⟨33, _⟩ => ⟨S49152x3584, .f32⟩
  | .hbm, ⟨34, _⟩ => ⟨S1024x3584, .f32⟩
  | .hbm, ⟨35, _⟩ => ⟨S49152x3584, .f32⟩
  | .hbm, ⟨36, _⟩ => ⟨S49152x3584, .f32⟩
  | .hbm, ⟨37, _⟩ => ⟨S3584x1024, .f32⟩
  | .hbm, ⟨38, _⟩ => ⟨S49152x1024, .f32⟩
  | .hbm, ⟨39, _⟩ => ⟨S49152x1024, .f32⟩
  | _, _ => ⟨S49152x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩

abbrev nD : Nat := 1
abbrev τ : Topo := Topo.v7x

variable {F : FTy → Type} [FloatOps F]
-- ==== Proj.lean ====
abbrev S49152x1024 : Shape := ⟨2, ![49152, 1024]⟩
abbrev S1x1024x1024 : Shape := ⟨3, ![1, 1024, 1024]⟩
abbrev S1024x1024 : Shape := ⟨2, ![1024, 1024]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S49152x1024, .bf16⟩
  | .hbm, ⟨1, _⟩ => ⟨S1x1024x1024, .f32⟩
  | .hbm, ⟨2, _⟩ => ⟨S49152x1024, .f32⟩
  | .hbm, ⟨3, _⟩ => ⟨S1024x1024, .f32⟩
  | .hbm, ⟨4, _⟩ => ⟨S1024x1024, .bf16⟩
  | .hbm, ⟨5, _⟩ => ⟨S49152x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S49152x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ProjRefIdeal.lean ====
abbrev S49152x1024 : Shape := ⟨2, ![49152, 1024]⟩
abbrev S1x1024x1024 : Shape := ⟨3, ![1, 1024, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S49152x1024, .bf16⟩
  | .hbm, ⟨1, _⟩ => ⟨S1x1024x1024, .f32⟩
  | .hbm, ⟨2, _⟩ => ⟨S49152x1024, .f32⟩
  | .hbm, ⟨3, _⟩ => ⟨S49152x1024, .f32⟩
  | .hbm, ⟨4, _⟩ => ⟨S1024x1024, .f32⟩
  | .hbm, ⟨5, _⟩ => ⟨S49152x1024, .f32⟩
  | .hbm, ⟨6, _⟩ => ⟨S49152x1024, .f32⟩
  | _, _ => ⟨S49152x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Mout.lean ====
abbrev S49152x1024 : Shape := ⟨2, ![49152, 1024]⟩
abbrev S1x1024 : Shape := ⟨2, ![1, 1024]⟩
abbrev S1x1024x1024 : Shape := ⟨3, ![1, 1024, 1024]⟩
abbrev S1024 : Shape := ⟨1, ![1024]⟩
abbrev S1024x1024 : Shape := ⟨2, ![1024, 1024]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 11
  | .vmem => 12
  | .smem => 0
  | _ => 0

abbrev bufTy : (tb : Table) → Fin (tcTables nBuf tb) → BufTy
  | .hbm, ⟨0, _⟩ => ⟨S49152x1024, .f32⟩
  | .hbm, ⟨1, _⟩ => ⟨S49152x1024, .f32⟩
  | .hbm, ⟨2, _⟩ => ⟨S49152x1024, .bf16⟩
  | .hbm, ⟨3, _⟩ => ⟨S1x1024, .f32⟩
  | .hbm, ⟨4, _⟩ => ⟨S1x1024x1024, .f32⟩
  | .hbm, ⟨5, _⟩ => ⟨S49152x1024, .f32⟩
  | .hbm, ⟨6, _⟩ => ⟨S1024, .f32⟩
  | .hbm, ⟨7, _⟩ => ⟨S1x1024, .f32⟩
  | .hbm, ⟨8, _⟩ => ⟨S1024x1024, .f32⟩
  | .hbm, ⟨9, _⟩ => ⟨S1024x1024, .bf16⟩
  | .hbm, ⟨10, _⟩ => ⟨S49152x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S1x1024, .f32⟩
  | .local _ .vmem, ⟨7, _⟩ => ⟨S1024x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | _, _ => ⟨S49152x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MoutRefIdeal.lean ====
abbrev S49152x1024 : Shape := ⟨2, ![49152, 1024]⟩
abbrev S1x1024 : Shape := ⟨2, ![1, 1024]⟩
abbrev S1x1024x1024 : Shape := ⟨3, ![1, 1024, 1024]⟩
abbrev S49152x8x128 : Shape := ⟨3, ![49152, 8, 128]⟩
abbrev S_ : Shape := ⟨0, ![]⟩
abbrev S49152x8 : Shape := ⟨2, ![49152, 8]⟩
abbrev S49152x8x1 : Shape := ⟨3, ![49152, 8, 1]⟩
abbrev S1024 : Shape := ⟨1, ![1024]⟩
abbrev S1024x1024 : Shape := ⟨2, ![1024, 1024]⟩

abbrev nBuf : Space → Nat
  | .hbm => 39
  | .vmem => 0
  | .smem => 0
  | _ => 0

abbrev bufTy : (tb : Table) → Fin (tcTables nBuf tb) → BufTy
  | .hbm, ⟨0, _⟩ => ⟨S49152x1024, .f32⟩
  | .hbm, ⟨1, _⟩ => ⟨S49152x1024, .f32⟩
  | .hbm, ⟨2, _⟩ => ⟨S49152x1024, .bf16⟩
  | .hbm, ⟨3, _⟩ => ⟨S1x1024, .f32⟩
  | .hbm, ⟨4, _⟩ => ⟨S1x1024x1024, .f32⟩
  | .hbm, ⟨5, _⟩ => ⟨S49152x1024, .f32⟩
  | .hbm, ⟨6, _⟩ => ⟨S49152x1024, .f32⟩
  | .hbm, ⟨7, _⟩ => ⟨S49152x8x128, .f32⟩
  | .hbm, ⟨8, _⟩ => ⟨S49152x8x128, .f32⟩
  | .hbm, ⟨9, _⟩ => ⟨S_, .f32⟩
  | .hbm, ⟨10, _⟩ => ⟨S49152x8, .f32⟩
  | .hbm, ⟨11, _⟩ => ⟨S49152x8x1, .f32⟩
  | .hbm, ⟨12, _⟩ => ⟨S_, .f32⟩
  | .hbm, ⟨13, _⟩ => ⟨S49152x8x1, .f32⟩
  | .hbm, ⟨14, _⟩ => ⟨S49152x8x1, .f32⟩
  | .hbm, ⟨15, _⟩ => ⟨S_, .f32⟩
  | .hbm, ⟨16, _⟩ => ⟨S49152x8x1, .f32⟩
  | .hbm, ⟨17, _⟩ => ⟨S49152x8x1, .f32⟩
  | .hbm, ⟨18, _⟩ => ⟨S49152x8x1, .f32⟩
  | .hbm, ⟨19, _⟩ => ⟨S49152x8x128, .f32⟩
  | .hbm, ⟨20, _⟩ => ⟨S49152x8x128, .f32⟩
  | .hbm, ⟨21, _⟩ => ⟨S49152x1024, .f32⟩
  | .hbm, ⟨22, _⟩ => ⟨S1024, .f32⟩
  | .hbm, ⟨23, _⟩ => ⟨S1x1024, .f32⟩
  | .hbm, ⟨24, _⟩ => ⟨S49152x1024, .f32⟩
  | .hbm, ⟨25, _⟩ => ⟨S49152x1024, .f32⟩
  | .hbm, ⟨26, _⟩ => ⟨S49152x1024, .f32⟩
  | .hbm, ⟨27, _⟩ => ⟨S49152x1024, .f32⟩
  | .hbm, ⟨28, _⟩ => ⟨S49152x1024, .f32⟩
  | .hbm, ⟨29, _⟩ => ⟨S_, .f32⟩
  | .hbm, ⟨30, _⟩ => ⟨S49152x1024, .f32⟩
  | .hbm, ⟨31, _⟩ => ⟨S49152x1024, .f32⟩
  | .hbm, ⟨32, _⟩ => ⟨S_, .f32⟩
  | .hbm, ⟨33, _⟩ => ⟨S49152x1024, .f32⟩
  | .hbm, ⟨34, _⟩ => ⟨S49152x1024, .f32⟩
  | .hbm, ⟨35, _⟩ => ⟨S49152x1024, .f32⟩
  | .hbm, ⟨36, _⟩ => ⟨S1024x1024, .f32⟩
  | .hbm, ⟨37, _⟩ => ⟨S49152x1024, .f32⟩
  | .hbm, ⟨38, _⟩ => ⟨S49152x1024, .f32⟩
  | _, _ => ⟨S49152x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Min.lean ====
abbrev S49152x1024 : Shape := ⟨2, ![49152, 1024]⟩
abbrev S2x1024 : Shape := ⟨2, ![2, 1024]⟩
abbrev S1x1024x3104 : Shape := ⟨3, ![1, 1024, 3104]⟩
abbrev S1x32 : Shape := ⟨2, ![1, 32]⟩
abbrev S32 : Shape := ⟨1, ![32]⟩
abbrev S1024x3104 : Shape := ⟨2, ![1024, 3104]⟩
abbrev S1024x512 : Shape := ⟨2, ![1024, 512]⟩
abbrev S512x1024 : Shape := ⟨2, ![512, 1024]⟩
abbrev S1024x1024 : Shape := ⟨2, ![1024, 1024]⟩
abbrev S1024x32 : Shape := ⟨2, ![1024, 32]⟩
abbrev S_ : Shape := ⟨0, ![]⟩
abbrev S32x1 : Shape := ⟨2, ![32, 1]⟩
abbrev S32x1024 : Shape := ⟨2, ![32, 1024]⟩
abbrev S1x1024 : Shape := ⟨2, ![1, 1024]⟩
abbrev S1024 : Shape := ⟨1, ![1024]⟩
abbrev S49152x512 : Shape := ⟨2, ![49152, 512]⟩
abbrev S384x512x128 : Shape := ⟨3, ![384, 512, 128]⟩
abbrev S384x32x128 : Shape := ⟨3, ![384, 32, 128]⟩
abbrev S512x512 : Shape := ⟨2, ![512, 512]⟩
abbrev S4x512x128 : Shape := ⟨3, ![4, 512, 128]⟩
abbrev S4x32x128 : Shape := ⟨3, ![4, 32, 128]⟩
abbrev S512 : Shape := ⟨1, ![512]⟩
abbrev S512x1 : Shape := ⟨2, ![512, 1]⟩
abbrev S32x512 : Shape := ⟨2, ![32, 512]⟩
abbrev S512x128 : Shape := ⟨2, ![512, 128]⟩
abbrev S1x512x128 : Shape := ⟨3, ![1, 512, 128]⟩
abbrev S32x128 : Shape := ⟨2, ![32, 128]⟩
abbrev S1x32x128 : Shape := ⟨3, ![1, 32, 128]⟩

abbrev nBuf : Space → Nat
  | .hbm => 46
  | .vmem => 19
  | .smem => 0
  | _ => 0

abbrev bufTy : (tb : Table) → Fin (tcTables nBuf tb) → BufTy
  | .hbm, ⟨0, _⟩ => ⟨S49152x1024, .f32⟩
  | .hbm, ⟨1, _⟩ => ⟨S2x1024, .f32⟩
  | .hbm, ⟨2, _⟩ => ⟨S1x1024x3104, .f32⟩
  | .hbm, ⟨3, _⟩ => ⟨S1x32, .f32⟩
  | .hbm, ⟨4, _⟩ => ⟨S32, .i32⟩
  | .hbm, ⟨5, _⟩ => ⟨S1024x3104, .f32⟩
  | .hbm, ⟨6, _⟩ => ⟨S1024x512, .f32⟩
  | .hbm, ⟨7, _⟩ => ⟨S1024x512, .bf16⟩
  | .hbm, ⟨8, _⟩ => ⟨S1024x512, .f32⟩
  | .hbm, ⟨9, _⟩ => ⟨S512x1024, .f32⟩
  | .hbm, ⟨10, _⟩ => ⟨S512x1024, .bf16⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .bf16⟩
  | .hbm, ⟨15, _⟩ => ⟨S1024x32, .f32⟩
  | .hbm, ⟨16, _⟩ => ⟨S_, .i32⟩
  | .hbm, ⟨17, _⟩ => ⟨S32, .i32⟩
  | .hbm, ⟨18, _⟩ => ⟨S32, .i1⟩
  | .hbm, ⟨19, _⟩ => ⟨S_, .i32⟩
  | .hbm, ⟨20, _⟩ => ⟨S32, .i32⟩
  | .hbm, ⟨21, _⟩ => ⟨S32, .i32⟩
  | .hbm, ⟨22, _⟩ => ⟨S32, .i32⟩
  | .hbm, ⟨23, _⟩ => ⟨S32x1, .i32⟩
  | .hbm, ⟨24, _⟩ => ⟨S1024x32, .f32⟩
  | .hbm, ⟨25, _⟩ => ⟨S32x1024, .f32⟩
  | .hbm, ⟨26, _⟩ => ⟨S32x1024, .bf16⟩
  | .hbm, ⟨27, _⟩ => ⟨S32, .f32⟩
  | .hbm, ⟨28, _⟩ => ⟨S_, .i32⟩
  | .hbm, ⟨29, _⟩ => ⟨S32, .i32⟩
  | .hbm, ⟨30, _⟩ => ⟨S32, .i1⟩
  | .hbm, ⟨31, _⟩ => ⟨S_, .i32⟩
  | .hbm, ⟨32, _⟩ => ⟨S32, .i32⟩
  | .hbm, ⟨33, _⟩ => ⟨S32, .i32⟩
  | .hbm, ⟨34, _⟩ => ⟨S32, .i32⟩
  | .hbm, ⟨35, _⟩ => ⟨S32x1, .i32⟩
  | .hbm, ⟨36, _⟩ => ⟨S32, .f32⟩
  | .hbm, ⟨37, _⟩ => ⟨S32x1, .f32⟩
  | .hbm, ⟨38, _⟩ => ⟨S1x1024, .f32⟩
  | .hbm, ⟨39, _⟩ => ⟨S1024, .f32⟩
  | .hbm, ⟨40, _⟩ => ⟨S1x1024, .f32⟩
  | .hbm, ⟨41, _⟩ => ⟨S49152x512, .bf16⟩
  | .hbm, ⟨42, _⟩ => ⟨S384x512x128, .bf16⟩
  | .hbm, ⟨43, _⟩ => ⟨S49152x1024, .bf16⟩
  | .hbm, ⟨44, _⟩ => ⟨S49152x1024, .bf16⟩
  | .hbm, ⟨45, _⟩ => ⟨S384x32x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S512x1024, .bf16⟩
  | .local _ .vmem, ⟨5, _⟩ => ⟨S1024x1024, .bf16⟩
  | .local _ .vmem, ⟨6, _⟩ => ⟨S1024x1024, .bf16⟩
  | .local _ .vmem, ⟨7, _⟩ => ⟨S32x1024, .bf16⟩
  | .local _ .vmem, ⟨8, _⟩ => ⟨S32x1, .f32⟩
  | .local _ .vmem, ⟨9, _⟩ => ⟨S512x512, .bf16⟩
  | .local _ .vmem, ⟨10, _⟩ => ⟨S512x512, .bf16⟩
  | .local _ .vmem, ⟨11, _⟩ => ⟨S4x512x128, .bf16⟩
  | .local _ .vmem, ⟨12, _⟩ => ⟨S4x512x128, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S4x32x128, .f32⟩
  | .local _ .vmem, ⟨18, _⟩ => ⟨S4x32x128, .f32⟩
  | _, _ => ⟨S49152x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_0 : Ref sig .tc := ⟨.hbm, 16, rfl⟩
abbrev main_v11 : Ref sig .tc := ⟨.hbm, 17, rfl⟩
abbrev main_v12 : Ref sig .tc := ⟨.hbm, 18, rfl⟩
abbrev main_c_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c_2 : Ref sig .tc := ⟨.hbm, 28, rfl⟩
abbrev main_v21 : Ref sig .tc := ⟨.hbm, 29, rfl⟩
abbrev main_v22 : Ref sig .tc := ⟨.hbm, 30, rfl⟩
abbrev main_c_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32_0 : Ref sig .tc := ⟨.hbm, 41, rfl⟩
abbrev main_v32_1 : Ref sig .tc := ⟨.hbm, 42, rfl⟩
abbrev main_v32_2 : Ref sig .tc := ⟨.hbm, 43, rfl⟩
abbrev main_v32_3 : Ref sig .tc := ⟨.hbm, 44, rfl⟩
abbrev main_v32_4 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x32x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MinRefIdeal.lean ====
abbrev S49152x1024 : Shape := ⟨2, ![49152, 1024]⟩
abbrev S2x1024 : Shape := ⟨2, ![2, 1024]⟩
abbrev S1x1024x3104 : Shape := ⟨3, ![1, 1024, 3104]⟩
abbrev S1x32 : Shape := ⟨2, ![1, 32]⟩
abbrev S1x1024 : Shape := ⟨2, ![1, 1024]⟩
abbrev S1024 : Shape := ⟨1, ![1024]⟩
abbrev S_ : Shape := ⟨0, ![]⟩
abbrev S49152 : Shape := ⟨1, ![49152]⟩
abbrev S49152x1 : Shape := ⟨2, ![49152, 1]⟩
abbrev S1024x3104 : Shape := ⟨2, ![1024, 3104]⟩
abbrev S49152x3104 : Shape := ⟨2, ![49152, 3104]⟩
abbrev S49152x512 : Shape := ⟨2, ![49152, 512]⟩
abbrev S49152x32 : Shape := ⟨2, ![49152, 32]⟩
abbrev S32 : Shape := ⟨1, ![32]⟩
abbrev S49152x2x2x8 : Shape := ⟨4, ![49152, 2, 2, 8]⟩
abbrev S49152x2x1x8 : Shape := ⟨4, ![49152, 2, 1, 8]⟩
abbrev S49152x2x8 : Shape := ⟨3, ![49152, 2, 8]⟩
abbrev S49152x8x2x2 : Shape := ⟨4, ![49152, 8, 2, 2]⟩
abbrev S384x128x512 : Shape := ⟨3, ![384, 128, 512]⟩
abbrev S384x512x128 : Shape := ⟨3, ![384, 512, 128]⟩
abbrev S384x128x32 : Shape := ⟨3, ![384, 128, 32]⟩
abbrev S384x32x128 : Shape := ⟨3, ![384, 32, 128]⟩

abbrev nBuf : Space → Nat
  | .hbm => 70
  | .vmem => 0
  | .smem => 0
  | _ => 0

abbrev bufTy : (tb : Table) → Fin (tcTables nBuf tb) → BufTy
  | .hbm, ⟨0, _⟩ => ⟨S49152x1024, .f32⟩
  | .hbm, ⟨1, _⟩ => ⟨S2x1024, .f32⟩
  | .hbm, ⟨2, _⟩ => ⟨S1x1024x3104, .f32⟩
  | .hbm, ⟨3, _⟩ => ⟨S1x32, .f32⟩
  | .hbm, ⟨4, _⟩ => ⟨S1x1024, .f32⟩
  | .hbm, ⟨5, _⟩ => ⟨S1024, .f32⟩
  | .hbm, ⟨6, _⟩ => ⟨S49152x1024, .f32⟩
  | .hbm, ⟨7, _⟩ => ⟨S_, .f32⟩
  | .hbm, ⟨8, _⟩ => ⟨S49152, .f32⟩
  | .hbm, ⟨9, _⟩ => ⟨S49152x1, .f32⟩
  | .hbm, ⟨10, _⟩ => ⟨S_, .f32⟩
  | .hbm, ⟨11, _⟩ => ⟨S49152x1, .f32⟩
  | .hbm, ⟨12, _⟩ => ⟨S49152x1, .f32⟩
  | .hbm, ⟨13, _⟩ => ⟨S_, .f32⟩
  | .hbm, ⟨14, _⟩ => ⟨S49152x1, .f32⟩
  | .hbm, ⟨15, _⟩ => ⟨S49152x1, .f32⟩
  | .hbm, ⟨16, _⟩ => ⟨S49152x1, .f32⟩
  | .hbm, ⟨17, _⟩ => ⟨S49152x1024, .f32⟩
  | .hbm, ⟨18, _⟩ => ⟨S49152x1024, .f32⟩
  | .hbm, ⟨19, _⟩ => ⟨S1x1024, .f32⟩
  | .hbm, ⟨20, _⟩ => ⟨S49152x1024, .f32⟩
  | .hbm, ⟨21, _⟩ => ⟨S49152x1024, .f32⟩
  | .hbm, ⟨22, _⟩ => ⟨S1024x3104, .f32⟩
  | .hbm, ⟨23, _⟩ => ⟨S49152x3104, .f32⟩
  | .hbm, ⟨24, _⟩ => ⟨S49152x512, .f32⟩
  | .hbm, ⟨25, _⟩ => ⟨S49152x512, .f32⟩
  | .hbm, ⟨26, _⟩ => ⟨S49152x1024, .f32⟩
  | .hbm, ⟨27, _⟩ => ⟨S49152x1024, .f32⟩
  | .hbm, ⟨28, _⟩ => ⟨S49152x32, .f32⟩
  | .hbm, ⟨29, _⟩ => ⟨S32, .f32⟩
  | .hbm, ⟨30, _⟩ => ⟨S1x32, .f32⟩
  | .hbm, ⟨31, _⟩ => ⟨S49152x32, .f32⟩
  | .hbm, ⟨32, _⟩ => ⟨S49152x32, .f32⟩
  | .hbm, ⟨33, _⟩ => ⟨S49152x2x2x8, .f32⟩
  | .hbm, ⟨34, _⟩ => ⟨S49152x2x1x8, .f32⟩
  | .hbm, ⟨35, _⟩ => ⟨S49152x2x8, .f32⟩
  | .hbm, ⟨36, _⟩ => ⟨S49152x2x1x8, .f32⟩
  | .hbm, ⟨37, _⟩ => ⟨S49152x2x8, .f32⟩
  | .hbm, ⟨38, _⟩ => ⟨S49152x2x8, .f32⟩
  | .hbm, ⟨39, _⟩ => ⟨S_, .f32⟩
  | .hbm, ⟨40, _⟩ => ⟨S49152x2x8, .f32⟩
  | .hbm, ⟨41, _⟩ => ⟨S49152x2x8, .f32⟩
  | .hbm, ⟨42, _⟩ => ⟨S49152x2x8, .f32⟩
  | .hbm, ⟨43, _⟩ => ⟨S49152x2x8, .f32⟩
  | .hbm, ⟨44, _⟩ => ⟨S49152x2x8, .i1⟩
  | .hbm, ⟨45, _⟩ => ⟨S49152x2x8, .f32⟩
  | .hbm, ⟨46, _⟩ => ⟨S49152x2x8, .f32⟩
  | .hbm, ⟨47, _⟩ => ⟨S49152x2x8, .f32⟩
  | .hbm, ⟨48, _⟩ => ⟨S49152x2x8, .f32⟩
  | .hbm, ⟨49, _⟩ => ⟨S49152x2x8, .f32⟩
  | .hbm, ⟨50, _⟩ => ⟨S49152x2x8, .f32⟩
  | .hbm, ⟨51, _⟩ => ⟨S49152x2x8, .f32⟩
  | .hbm, ⟨52, _⟩ => ⟨S49152x2x8, .f32⟩
  | .hbm, ⟨53, _⟩ => ⟨S49152x2x8, .f32⟩
  | .hbm, ⟨54, _⟩ => ⟨S49152x2x1x8, .f32⟩
  | .hbm, ⟨55, _⟩ => ⟨S49152x2x1x8, .f32⟩
  | .hbm, ⟨56, _⟩ => ⟨S49152x2x2x8, .f32⟩
  | .hbm, ⟨57, _⟩ => ⟨S49152x8x2x2, .f32⟩
  | .hbm, ⟨58, _⟩ => ⟨S49152x32, .f32⟩
  | .hbm, ⟨59, _⟩ => ⟨S_, .f32⟩
  | .hbm, ⟨60, _⟩ => ⟨S49152x512, .f32⟩
  | .hbm, ⟨61, _⟩ => ⟨S49152x512, .f32⟩
  | .hbm, ⟨62, _⟩ => ⟨S49152x512, .bf16⟩
  | .hbm, ⟨63, _⟩ => ⟨S384x128x512, .f32⟩
  | .hbm, ⟨64, _⟩ => ⟨S384x512x128, .f32⟩
  | .hbm, ⟨65, _⟩ => ⟨S384x512x128, .bf16⟩
  | .hbm, ⟨66, _⟩ => ⟨S49152x1024, .bf16⟩
  | .hbm, ⟨67, _⟩ => ⟨S49152x1024, .bf16⟩
  | .hbm, ⟨68, _⟩ => ⟨S384x128x32, .f32⟩
  | .hbm, ⟨69, _⟩ => ⟨S384x32x128, .f32⟩
  | _, _ => ⟨S49152x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_call0_v0 : Ref sig .tc := ⟨.hbm, 38, rfl⟩
abbrev main_call0_call0_cst : Ref sig .tc := ⟨.hbm, 39, rfl⟩
abbrev main_call0_call0_v0 : Ref sig .tc := ⟨.hbm, 40, rfl⟩
abbrev main_call0_call0_v1 : Ref sig .tc := ⟨.hbm, 41, rfl⟩
abbrev main_call0_call0_v2 : Ref sig .tc := ⟨.hbm, 42, rfl⟩
abbrev main_call0_call0_v3 : Ref sig .tc := ⟨.hbm, 43, rfl⟩
abbrev main_call0_call0_v4 : Ref sig .tc := ⟨.hbm, 44, rfl⟩
abbrev main_call0_call0_v5 : Ref sig .tc := ⟨.hbm, 45, rfl⟩
abbrev main_call0_call0_v6 : Ref sig .tc := ⟨.hbm, 46, rfl⟩
abbrev main_call0_call0_v7 : Ref sig .tc := ⟨.hbm, 47, rfl⟩
abbrev main_call0_call0_v8 : Ref sig .tc := ⟨.hbm, 48, rfl⟩
abbrev main_call0_call0_v9 : Ref sig .tc := ⟨.hbm, 49, rfl⟩
abbrev main_call0_call0_v10 : Ref sig .tc := ⟨.hbm, 50, rfl⟩
abbrev main_call0_call0_v11 : Ref sig .tc := ⟨.hbm, 51, rfl⟩
abbrev main_call0_v1 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_2 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩

abbrev nD : Nat := 1
abbrev τ : Topo := Topo.v7x

variable {F : FTy → Type} [FloatOps F]
-- ==== Proof.Sums.lean ====
/- Sums of extended reals: a finite factor that is not negative goes into a sum, and a sum over lanes of
   which one is chosen is that lane. -/
module

public import Idealize.ShloMosaic.Lib.Pointwise

@[expose] public section

noncomputable section

open Idealize.ShloMosaic

namespace Cert.Sums

/-- A finite factor that is not negative, multiplied into a sum from the left. -/
theorem mul_sum {ι : Type*} (s : Finset ι) (g : EReal) (h0 : 0 ≤ g) (h1 : g ≠ ⊤) (f : ι → EReal) :
    g * ∑ i ∈ s, f i = ∑ i ∈ s, g * f i := by
  classical
  induction s using Finset.induction_on with
  | empty => simp
  | insert a s ha ih => rw [Finset.sum_insert ha, Finset.sum_insert ha, EReal.left_distrib_of_nonneg_of_ne_top h0 h1, ih]

/-- The same, from the right. -/
theorem sum_mul {ι : Type*} (s : Finset ι) (g : EReal) (h0 : 0 ≤ g) (h1 : g ≠ ⊤) (f : ι → EReal) :
    (∑ i ∈ s, f i) * g = ∑ i ∈ s, f i * g := by
  rw [mul_comm, mul_sum s g h0 h1]
  exact Finset.sum_congr rfl fun i _ => mul_comm _ _

/-- Zero minus a number is its negative. -/
theorem zero_sub' (a : EReal) : 0 - a = -a := by rw [sub_eq_add_neg, zero_add]

/-- The lanes of which only lane `e` is kept add up to lane `e`. -/
theorem sum_lane (n : ℕ) (hn : n ≤ 2 ^ 32) (f : Fin n → EReal) (e : Fin n) (w : BitVec 32)
    (hw : w = BitVec.ofNat 32 e.val) :
    ∑ l : Fin n, Scalar.select (IntOp.cmpi .eq (BitVec.ofNat 32 l.val) w) (f l) 0 = f e := by
  subst hw
  rw [Finset.sum_eq_single e]
  · simp [Scalar.select, IntOp.cmpi]
  · intro l _ hl
    have : ¬ BitVec.ofNat 32 l.val = BitVec.ofNat 32 e.val := by
      intro h
      have h' := congrArg BitVec.toNat h
      simp only [BitVec.toNat_ofNat] at h'
      rw [Nat.mod_eq_of_lt (by omega), Nat.mod_eq_of_lt (by omega)] at h'
      exact hl (Fin.ext h')
    have hb : (BitVec.ofNat 32 l.val == BitVec.ofNat 32 e.val) = false := by simpa using this
    simp [Scalar.select, IntOp.cmpi, hb]
  · intro h; exact absurd (Finset.mem_univ e) h

end Cert.Sums
end
-- ==== Proof.Softmax.lean ====
/- Attention of one query over a family of keys, some of them masked, with a sink logit: the two orders of division, and a change of
   the family of keys. -/
module

public import proofs.«01_k».proof.Proof.Sums
public import Idealize.ShloMosaic.Lib.Pointwise

@[expose] public section

noncomputable section

open Idealize.ShloMosaic

namespace Cert.Softmax

variable {ι κ : Type} [Fintype ι] [Fintype κ]

/-- The largest of the unmasked scores and the sink. -/
def top (ok : ι → Prop) [DecidablePred ok] (s : ι → EReal) (z : EReal) : EReal :=
  max (Finset.univ.fold max ⊥ fun i => if ok i then s i else ⊥) z

/-- A key's weight before normalising. -/
def weight (ok : ι → Prop) [DecidablePred ok] (s : ι → EReal) (z : EReal) (i : ι) : EReal :=
  Ideal.exp ((if ok i then s i else ⊥) - top ok s z)

/-- The sum of the weights and the sink's. -/
def den (ok : ι → Prop) [DecidablePred ok] (s : ι → EReal) (z : EReal) : EReal :=
  ∑ i, weight ok s z i + Ideal.exp (z - top ok s z)

/-- The values under the normalised weights. -/
def att (ok : ι → Prop) [DecidablePred ok] (s v : ι → EReal) (z : EReal) : EReal :=
  ∑ i, v i * Ideal.div (weight ok s z i) (den ok s z)

/-- The values under the weights, normalised at the end. -/
def late (ok : ι → Prop) [DecidablePred ok] (s v : ι → EReal) (z : EReal) : EReal :=
  (∑ i, weight ok s z i * v i) * Ideal.div 1 (den ok s z)

variable {ok : ι → Prop} [DecidablePred ok] {s v : ι → EReal} {z : EReal}

theorem exp_bot : Ideal.exp ⊥ = 0 := rfl
theorem exp_top : Ideal.exp ⊤ = ⊤ := rfl
theorem exp_coe (x : ℝ) : Ideal.exp (x : EReal) = (Real.exp x : EReal) := rfl

theorem exp_nonneg (x : EReal) : 0 ≤ Ideal.exp x := by
  induction x with
  | bot => rw [exp_bot]
  | coe x => rw [exp_coe]; exact_mod_cast (Real.exp_pos x).le
  | top => rw [exp_top]; exact le_top

theorem weight_masked {i : ι} (h : ¬ ok i) : weight ok s z i = 0 := by
  unfold weight
  rw [if_neg h, EReal.bot_sub, exp_bot]

theorem den_pos (hz : z ≠ ⊥) (hz' : z ≠ ⊤) (hs : ∀ i, ok i → s i ≠ ⊤) : 0 < den ok s z := by
  have h1 : top ok s z < ⊤ := by
    refine max_lt ((Finset.fold_max_lt _).2 ⟨bot_lt_top, fun i _ => ?_⟩) (lt_top_iff_ne_top.2 hz')
    split_ifs with h
    · exact lt_top_iff_ne_top.2 (hs i h)
    · exact bot_lt_top
  have h2 : z ≤ top ok s z := le_max_right _ _
  have h3 : 0 < Ideal.exp (z - top ok s z) := by
    revert h1 h2
    generalize top ok s z = t
    intro h1 h2
    induction z with
    | bot => exact absurd rfl hz
    | top => exact absurd rfl hz'
    | coe x =>
      induction t with
      | bot => exact absurd (le_bot_iff.1 h2) hz
      | top => exact absurd rfl h1.ne
      | coe y =>
        rw [← EReal.coe_sub, exp_coe]
        exact_mod_cast Real.exp_pos _
  unfold den
  refine lt_of_lt_of_le h3 ?_
  have : 0 ≤ ∑ i, weight ok s z i := Finset.sum_nonneg fun i _ => exp_nonneg _
  simpa using add_le_add_left this (Ideal.exp (z - top ok s z))

theorem late_eq (hz : z ≠ ⊥) (hz' : z ≠ ⊤) (hs : ∀ i, ok i → s i ≠ ⊤) : late ok s v z = att ok s v z := by
  have hd := den_pos (ok := ok) (s := s) hz hz' hs
  unfold late att
  generalize den ok s z = d at hd
  have h0 : (0 : EReal) ≤ d⁻¹ := EReal.inv_nonneg_of_nonneg hd.le
  have h1 : d⁻¹ ≠ ⊤ := by
    induction d with
    | bot => simp at hd
    | coe x => rw [← EReal.coe_inv]; exact EReal.coe_ne_top _
    | top => simp
  simp only [Ideal.div, if_neg hd.ne', one_mul]
  rw [Cert.Sums.sum_mul]
  · exact Finset.sum_congr rfl fun i _ => by rw [mul_comm (weight ok s z i) (v i), mul_assoc]
  · exact h0
  · exact h1

/-- Two families of keys that agree on their unmasked members give the same attention. -/
theorem att_congr {ok' : κ → Prop} [DecidablePred ok'] {s' v' : κ → EReal} (f : κ → ι) (g : ι → κ)
    (hz : z ≠ ⊥) (hz' : z ≠ ⊤) (hs : ∀ i, ok i → s i ≠ ⊤)
    (hf : ∀ k, ok' k → ok (f k) ∧ g (f k) = k ∧ s' k = s (f k) ∧ v' k = v (f k))
    (hg : ∀ i, ok i → ok' (g i) ∧ f (g i) = i) :
    att ok' s' v' z = att ok s v z := by
  have ht : top ok' s' z = top ok s z := by
    unfold top
    congr 1
    refine le_antisymm ((Finset.fold_max_le _).2 ⟨bot_le, fun k _ => ?_⟩) ((Finset.fold_max_le _).2 ⟨bot_le, fun i _ => ?_⟩)
    · split_ifs with h
      · refine (Finset.le_fold_max _).2 (Or.inr ⟨f k, Finset.mem_univ _, ?_⟩)
        rw [if_pos (hf k h).1, (hf k h).2.2.1]
      · exact bot_le
    · split_ifs with h
      · refine (Finset.le_fold_max _).2 (Or.inr ⟨g i, Finset.mem_univ _, ?_⟩)
        rw [if_pos (hg i h).1, (hf _ (hg i h).1).2.2.1, (hg i h).2]
      · exact bot_le
  have hw : ∀ k, ok' k → weight ok' s' z k = weight ok s z (f k) := fun k h => by
    unfold weight
    rw [if_pos h, if_pos (hf k h).1, (hf k h).2.2.1, ht]
  have hsum : ∀ (F : κ → EReal) (G : ι → EReal), (∀ k, ¬ ok' k → F k = 0) → (∀ i, ¬ ok i → G i = 0) →
      (∀ k, ok' k → F k = G (f k)) → ∑ k, F k = ∑ i, G i := by
    intro F G hF hG hFG
    refine Finset.sum_bij_ne_zero (fun k _ _ => f k) (fun _ _ _ => Finset.mem_univ _) ?_ ?_ ?_
    · intro a _ ha b _ hb hab
      have ha' : ok' a := by by_contra h; exact ha (hF a h)
      have hb' : ok' b := by by_contra h; exact hb (hF b h)
      rw [← (hf a ha').2.1, ← (hf b hb').2.1, hab]
    · intro i _ hi
      have hi' : ok i := by by_contra h; exact hi (hG i h)
      refine ⟨g i, Finset.mem_univ _, ?_, (hg i hi').2⟩
      rw [hFG _ (hg i hi').1, (hg i hi').2]
      exact hi
    · intro k _ hk
      exact hFG k (by by_contra h; exact hk (hF k h))
  have hd : den ok' s' z = den ok s z := by
    unfold den
    rw [ht, hsum _ _ (fun k h => weight_masked h) (fun i h => weight_masked h) hw]
  have hne := (den_pos (ok := ok) (s := s) hz hz' hs).ne'
  unfold att
  rw [hd]
  refine hsum _ _ (fun k h => ?_) (fun i h => ?_) (fun k h => ?_)
  · rw [weight_masked h]; simp [Ideal.div, hne]
  · rw [weight_masked h]; simp [Ideal.div, hne]
  · rw [hw k h, (hf k h).2.2.2]

/-- A sum of products of finite numbers is not the top. -/
theorem dot_ne_top (a b : ι → EReal) (ha : ∀ i, a i ≠ ⊥ ∧ a i ≠ ⊤) (hb : ∀ i, b i ≠ ⊥ ∧ b i ≠ ⊤) : ∑ i, a i * b i ≠ ⊤ := by
  have h : ∀ i, a i * b i = (((a i).toReal * (b i).toReal : ℝ) : EReal) := fun i => by
    rw [EReal.coe_mul, EReal.coe_toReal (ha i).2 (ha i).1, EReal.coe_toReal (hb i).2 (hb i).1]
  have hsum : ∀ f : ι → ℝ, ∑ i, (f i : EReal) = ((∑ i, f i : ℝ) : EReal) := fun f => by
    classical
    induction (Finset.univ : Finset ι) using Finset.induction_on with
    | empty => simp
    | insert a s ha ih => rw [Finset.sum_insert ha, Finset.sum_insert ha, ih, EReal.coe_add]
  rw [Finset.sum_congr rfl fun i _ => h i, hsum]
  exact EReal.coe_ne_top _

end Cert.Softmax
end
-- ==== Proof.Near.lean ====
/- Distances of small numbers, as 32-bit words. -/
module

public import proofs.«01_k».proof.Proof.Softmax

@[expose] public section

namespace Cert.Near

open Idealize.ShloMosaic

/-- Two numbers' words are at most 128 apart when the numbers are. -/
theorem near (a b : ℕ) (ha : a < 1048576) (hb : b < 1048576) :
    IntOp.cmpi .sle (IntOp.absi (IntOp.subi (BitVec.ofNat 32 a) (BitVec.ofNat 32 b))) 128#32 = 1#1 ↔ a ≤ b + 128 ∧ b ≤ a + 128 := by
  have e : ∀ c : Bool, BitVec.ofBool c = 1#1 ↔ c = true := by decide
  unfold IntOp.cmpi IntOp.absi IntOp.subi
  rw [e, BitVec.sle_iff_toInt_le, BitVec.msb_eq_decide]
  rw [BitVec.toNat_sub, BitVec.toNat_ofNat, BitVec.toNat_ofNat, Nat.mod_eq_of_lt (show a < 2 ^ 32 by omega), Nat.mod_eq_of_lt (show b < 2 ^ 32 by omega)]
  by_cases h : b ≤ a
  · have h1 : (2 ^ 32 - b + a) % 2 ^ 32 = a - b := by omega
    rw [h1, if_neg (by simp; omega), BitVec.toInt_eq_toNat_of_lt (by
      rw [BitVec.toNat_sub, BitVec.toNat_ofNat, BitVec.toNat_ofNat, Nat.mod_eq_of_lt (show a < 2 ^ 32 by omega), Nat.mod_eq_of_lt (show b < 2 ^ 32 by omega), h1]; omega)]
    rw [BitVec.toNat_sub, BitVec.toNat_ofNat, BitVec.toNat_ofNat, Nat.mod_eq_of_lt (show a < 2 ^ 32 by omega), Nat.mod_eq_of_lt (show b < 2 ^ 32 by omega), h1]
    show ((a - b : ℕ) : ℤ) ≤ 128 ↔ _
    omega
  · have h1 : (2 ^ 32 - b + a) % 2 ^ 32 = 2 ^ 32 - (b - a) := by omega
    have h2 : (-(BitVec.ofNat 32 a - BitVec.ofNat 32 b)).toNat = b - a := by
      rw [BitVec.toNat_neg, BitVec.toNat_sub, BitVec.toNat_ofNat, BitVec.toNat_ofNat, Nat.mod_eq_of_lt (show a < 2 ^ 32 by omega), Nat.mod_eq_of_lt (show b < 2 ^ 32 by omega), h1]
      omega
    rw [h1, if_pos (by simp; omega), BitVec.toInt_eq_toNat_of_lt (by rw [h2]; omega), h2]
    show ((b - a : ℕ) : ℤ) ≤ 128 ↔ _
    omega

theorem sub_sub_word (x r : ℕ) : IntOp.subi (IntOp.subi (BitVec.ofNat 32 x) 128#32) (BitVec.ofNat 32 r)
    = IntOp.subi (BitVec.ofNat 32 x) (BitVec.ofNat 32 (128 + r)) := by
  unfold IntOp.subi
  rw [BitVec.ofNat_add, BitVec.sub_sub]

theorem and_one (a b : BitVec 1) : IntOp.andi a b = 1#1 ↔ a = 1#1 ∧ b = 1#1 := by revert a b; decide

theorem or_one (a b : BitVec 1) : IntOp.ori a b = 1#1 ↔ a = 1#1 ∨ b = 1#1 := by revert a b; decide

theorem minf : Ideal.ofBits FTy.f32 4286578688#32 = (⊥ : EReal) := by simp [Ideal.ofBits, Ideal.ieee]

theorem select_one (b : BitVec 1) (x y : EReal) : Scalar.select b x y = if b = 1#1 then x else y := by
  unfold Scalar.select
  rcases eq_or_ne b 1#1 with h | h
  · simp [h]
  · simp [h]

theorem sge_word : ∀ x : Fin 384, IntOp.cmpi .sge (BitVec.ofNat 32 x.val) 128#32 = 1#1 ↔ 128 ≤ x.val := by decide +kernel

theorem slt_word : ∀ x : Fin 384, IntOp.cmpi .slt (BitVec.ofNat 32 x.val) 256#32 = 1#1 ↔ x.val < 256 := by decide +kernel

end Cert.Near
-- ==== Proof.AttnTile.lean ====
/- One pair of query heads of the attention, read at an entry. -/
module

public import proofs.«01_k».proof.Proof.Near
public import proofs.«01_k».proof.Proof.Gen.AttnIdeal.Value
public import proofs.«01_k».proof.Proof.Softmax
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AttnIdeal.Hand

open Cert.Near
open Cert.AttnIdeal Cert.AttnIdeal.Gen

/-- The stored tile of two query heads: their scores against the keys `kl`, `kh`, masked by `ok`, and the values `vl`, `vh`. -/
def tile (ok : IVec S128x384 1) (kl kh vl vh : FVec Ideal S384x128 .bf16) (q : Vec Ideal S128x128 .bf16)
    (s0 s1 : Elt Ideal .f32) : Vec Ideal S128x128 .bf16 :=
  k0_pay37 (iota .tc S128x128 32 [1] iota_S128x128_d1_w32) (k0_pay30 ok kl q s0) (k0_pay34 ok kh q s1)
    (k0_pay35 ok kl vl q s0) (k0_pay36 ok kh vh q s1)

theorem lane_lt (l : Fin 128) : (IntOp.cmpi CmpIPredicate.slt (BitVec.ofNat 32 l.val) 64#32 = 1#1) ↔ l.val < 64 := by
  revert l; decide +kernel

/-- A sum over the lanes of a tile whose upper half is zero. -/
theorem sum_low (F : Fin 128 → EReal) (G : Fin 64 → EReal) (h : ∀ (l : Fin 128) (hl : l.val < 64), F l = G ⟨l.val, hl⟩)
    (h' : ∀ l : Fin 128, ¬ l.val < 64 → F l = 0) : ∑ l, F l = ∑ d, G d := by
  refine (Fin.sum_univ_add (a := 64) (b := 64) F).trans ?_
  have h0 : ∀ d : Fin 64, F (Fin.natAdd 64 d) = 0 := fun d => h' _ (by simp)
  have h1 : ∀ d : Fin 64, F (Fin.castAdd 64 d) = G d := fun d => h _ d.isLt
  simp only [h0, h1, Finset.sum_const_zero, add_zero]

/-- A sum over the lanes of a tile whose lower half is zero. -/
theorem sum_high (F : Fin 128 → EReal) (G : Fin 64 → EReal) (h : ∀ (l : Fin 128) (hl : ¬ l.val < 64), F l = G ⟨l.val - 64, by omega⟩)
    (h' : ∀ l : Fin 128, l.val < 64 → F l = 0) : ∑ l, F l = ∑ d, G d := by
  refine (Fin.sum_univ_add (a := 64) (b := 64) F).trans ?_
  have h0 : ∀ d : Fin 64, F (Fin.castAdd 64 d) = 0 := fun d => h' _ d.isLt
  have h1 : ∀ d : Fin 64, F (Fin.natAdd 64 d) = G d := fun d => (h _ (by simp)).trans (congrArg G (Fin.ext (by simp)))
  simp only [h0, h1, Finset.sum_const_zero, zero_add]

/-- The lower lanes hold a head's 64 features, the upper lanes zero. -/
def Low (X : FVec Ideal S384x128 .bf16) (k : Fin 384 → Fin 64 → EReal) : Prop :=
  ∀ (x : Fin 384) (l : Fin 128), X (ix2 x l) = if h : l.val < 64 then k x ⟨l.val, h⟩ else 0

/-- The upper lanes hold a head's 64 features, the lower lanes zero. -/
def High (X : FVec Ideal S384x128 .bf16) (k : Fin 384 → Fin 64 → EReal) : Prop :=
  ∀ (x : Fin 384) (l : Fin 128), X (ix2 x l) = if h : l.val < 64 then 0 else k x ⟨l.val - 64, by omega⟩

open Cert.Softmax in
/-- An entry of the tile is the attention of its own head. -/
theorem tile_at (ok : IVec S128x384 1) (kl kh vl vh : FVec Ideal S384x128 .bf16) (q : Vec Ideal S128x128 .bf16)
    (s0 s1 : Elt Ideal .f32) (k v : Fin 384 → Fin 64 → EReal) (hkl : Low kl k) (hkh : High kh k) (hvl : Low vl v) (hvh : High vh v)
    (r l : Fin 128) :
    tile ok kl kh vl vh q s0 s1 (ix2 r l)
      = late (fun x => ok (ix2 r x) = 1#1)
          (fun x => ∑ d : Fin 64, q (ix2 r ⟨64 * (l.val / 64) + d.val, by omega⟩) * k x d)
          (fun x => v x ⟨l.val % 64, by omega⟩) (if l.val < 64 then s0 else s1) := by
  unfold tile
  pointwise [k0_pay37, k0_pay30, k0_pay34, k0_pay35, k0_pay36, k0_pay27, k0_pay28, k0_pay29, k0_pay31, k0_pay32, k0_pay33]
  simp only [minf, select_one, lane_lt]
  have e0 : ∀ x, ∑ d, q (ix2 r d) * kl (ix2 x d) = ∑ d : Fin 64, q (ix2 r ⟨d.val, by omega⟩) * k x d := fun x =>
    sum_low _ (fun d => q (ix2 r ⟨d.val, by omega⟩) * k x d) (fun l hl => by rw [hkl, dif_pos hl]) (fun l hl => by rw [hkl, dif_neg hl]; exact mul_zero (_ : EReal))
  have e1 : ∀ x, ∑ d, q (ix2 r d) * kh (ix2 x d) = ∑ d : Fin 64, q (ix2 r ⟨64 + d.val, by omega⟩) * k x d := fun x =>
    sum_high _ (fun d => q (ix2 r ⟨64 + d.val, by omega⟩) * k x d) (fun l hl => by rw [hkh, dif_neg hl]; congr 3; exact Fin.ext (by simp; omega)) (fun l hl => by rw [hkh, dif_pos hl]; exact mul_zero (_ : EReal))
  simp only [e0, e1]
  by_cases hl : l.val < 64
  · have z : ∀ x, vh (ix2 x l) = 0 := fun x => by rw [hvh, dif_pos hl]
    have w : ∀ x, vl (ix2 x l) = v x ⟨l.val % 64, by omega⟩ := fun x => by
      rw [hvl, dif_pos hl]; congr 1; exact Fin.ext (by simp; omega)
    have e : (fun x => ∑ d : Fin 64, q (ix2 r ⟨64 * (l.val / 64) + d.val, by omega⟩) * k x d)
        = fun x => ∑ d : Fin 64, q (ix2 r ⟨d.val, by omega⟩) * k x d :=
      funext fun x => Finset.sum_congr rfl fun d _ => by congr 3; exact Fin.ext (by simp; omega)
    simp only [e, z, w, hl, mul_zero, Finset.sum_const_zero, add_zero, if_true]
    rfl
  · have z : ∀ x, vl (ix2 x l) = 0 := fun x => by rw [hvl, dif_neg hl]
    have w : ∀ x, vh (ix2 x l) = v x ⟨l.val % 64, by omega⟩ := fun x => by
      rw [hvh, dif_neg hl]; congr 1; exact Fin.ext (by simp; omega)
    have e : (fun x => ∑ d : Fin 64, q (ix2 r ⟨64 * (l.val / 64) + d.val, by omega⟩) * k x d)
        = fun x => ∑ d : Fin 64, q (ix2 r ⟨64 + d.val, by omega⟩) * k x d :=
      funext fun x => Finset.sum_congr rfl fun d _ => by congr 3; exact Fin.ext (by simp; omega)
    simp only [e, z, w, hl, mul_zero, Finset.sum_const_zero, zero_add, if_false]
    rfl

/-- Three blocks of keys or values stacked, the features of head `h`. -/
def feat (a b d : Vec Ideal S128x256 .bf16) (h : Fin 4) (x : Fin 384) (e : Fin 64) : EReal :=
  (k0_pay5 a b d : FVec Ideal S384x256 .f32) (ix2 x ⟨64 * h.val + e.val, by omega⟩)

theorem lane_rot_lt (l : Fin 128) : (IntOp.cmpi CmpIPredicate.slt (BitVec.ofNat 32 ((l.val + 128 - 64) % 128)) 64#32 = 1#1) ↔ ¬ l.val < 64 := by
  revert l; decide +kernel

theorem lane_ge (l : Fin 128) : (IntOp.cmpi CmpIPredicate.sge (BitVec.ofNat 32 l.val) 64#32 = 1#1) ↔ ¬ l.val < 64 := by
  revert l; decide +kernel

theorem lane_rot_ge (l : Fin 128) : (IntOp.cmpi CmpIPredicate.sge (BitVec.ofNat 32 ((l.val + 128 - 64) % 128)) 64#32 = 1#1) ↔ l.val < 64 := by
  revert l; decide +kernel

variable (a b d : Vec Ideal S128x256 .bf16)

/-- The lanes' numbers. -/
abbrev lanes : IVec S384x128 32 := iota .tc S384x128 32 [1] iota_S384x128_d1_w32

theorem low0 : Low (k0_pay9 a b d) (feat a b d 0) := by
  intro x l
  pointwise [k0_pay9, k0_pay8, k0_pay7]
  simp only [select_one, lane_lt, feat]
  split_ifs <;> blk_ext

theorem high0 : High (k0_pay10 a b d) (feat a b d 0) := by
  intro x l
  pointwise [k0_pay10, k0_pay8, k0_pay7]
  simp only [select_one, lane_rot_lt, feat]
  split_ifs <;> blk_ext

theorem low1 : Low (k0_pay40 (k0_pay5 a b d) lanes) (feat a b d 1) := by
  intro x l
  pointwise [k0_pay40, k0_pay39, k0_pay38]
  simp only [select_one, lane_rot_ge, feat]
  split_ifs <;> blk_ext

theorem high1 : High (k0_pay41 (k0_pay5 a b d) lanes) (feat a b d 1) := by
  intro x l
  pointwise [k0_pay41, k0_pay39, k0_pay38]
  simp only [select_one, lane_ge, feat]
  split_ifs <;> blk_ext

theorem low2 : Low (k0_pay64 (k0_pay5 a b d) lanes) (feat a b d 2) := by
  intro x l
  pointwise [k0_pay64, k0_pay63, k0_pay62]
  simp only [select_one, lane_lt, feat]
  split_ifs <;> blk_ext

theorem high2 : High (k0_pay65 (k0_pay5 a b d) lanes) (feat a b d 2) := by
  intro x l
  pointwise [k0_pay65, k0_pay63, k0_pay62]
  simp only [select_one, lane_rot_lt, feat]
  split_ifs <;> blk_ext

theorem low3 : Low (k0_pay84 (k0_pay81 lanes) (k0_pay82 (k0_pay5 a b d)) (Scalar.ofBits .f32 0x00000000#32)) (feat a b d 3) := by
  intro x l
  pointwise [k0_pay84, k0_pay83, k0_pay82, k0_pay81]
  simp only [select_one, lane_rot_ge, feat]
  split_ifs <;> blk_ext

theorem high3 : High (k0_pay85 (k0_pay81 lanes) (k0_pay82 (k0_pay5 a b d)) (Scalar.ofBits .f32 0x00000000#32)) (feat a b d 3) := by
  intro x l
  pointwise [k0_pay85, k0_pay83, k0_pay82, k0_pay81]
  simp only [select_one, lane_ge, feat]
  split_ifs <;> blk_ext

/-- Where the window's key `x` lies among the three blocks. -/
theorem feat_at (h : Fin 4) (x : Fin 384) (e : Fin 64) : feat a b d h x e
    = if h1 : x.val < 128 then a (ix2 ⟨x.val, h1⟩ ⟨64 * h.val + e.val, by omega⟩)
      else if h2 : x.val < 256 then b (ix2 ⟨x.val - 128, by omega⟩ ⟨64 * h.val + e.val, by omega⟩)
      else d (ix2 ⟨x.val - 256, by omega⟩ ⟨64 * h.val + e.val, by omega⟩) := by
  unfold feat
  pointwise [k0_pay5]
  by_cases h1 : x.val < 128
  · simp only [h1, dite_true]
  · by_cases h2 : x.val < 256
    · have h3 : x.val - 128 < 128 := by omega
      simp only [h1, h2, h3, dite_true, dite_false]
    · have h3 : ¬ x.val - 128 < 128 := by omega
      simp only [h1, h2, h3, dite_false]
      blk_ext

end Cert.AttnIdeal.Hand
end
-- ==== Proof.AttnPoint.lean ====
/- The attention kernel's block of results at a grid point. -/
module

public import proofs.«01_k».proof.Proof.AttnTile

@[expose] public section

set_option maxRecDepth 16384

noncomputable section

open Idealize.ShloMosaic Idealize.ShloMosaic.TcCoe Idealize.SL.Sem
open Idealize.ShloMosaic.Pipeline (Dat)

namespace Cert.AttnIdeal.Hand

open Cert.AttnIdeal Cert.AttnIdeal.Gen

variable (m : (ℓ : Loc nD τ sig) → Buf (Elt Ideal) ℓ)

/-- Where a block of queries begins in its sequence, from the block's number. -/
abbrev start (w : BitVec 32) : BitVec 32 :=
  Scalar.select (Scalar.cmpi .slt (Scalar.muli w 128#32) 16384#32)
    (Scalar.select (Scalar.andi (Scalar.xori (Scalar.cmpi .slt (Scalar.remsi (Scalar.muli w 128#32) 4096#32) 0#32) 0#1)
        (Scalar.cmpi .ne (Scalar.remsi (Scalar.muli w 128#32) 4096#32) 0#32))
      (Scalar.addi (Scalar.remsi (Scalar.muli w 128#32) 4096#32) 4096#32) (Scalar.remsi (Scalar.muli w 128#32) 4096#32))
    (Scalar.select (Scalar.andi (Scalar.xori (Scalar.cmpi .slt (Scalar.remsi (Scalar.subi (Scalar.muli w 128#32) 16384#32) 8192#32) 0#32) 0#1)
        (Scalar.cmpi .ne (Scalar.remsi (Scalar.subi (Scalar.muli w 128#32) 16384#32) 8192#32) 0#32))
      (Scalar.addi (Scalar.remsi (Scalar.subi (Scalar.muli w 128#32) 16384#32) 8192#32) 8192#32)
      (Scalar.remsi (Scalar.subi (Scalar.muli w 128#32) 16384#32) 8192#32))

/-- Whether the block before lies in the same sequence. -/
def hasPrev (t : Fin cfg0.N) : BitVec 1 := Scalar.cmpi .sgt (start (BitVec.ofNat 32 (grid0.coords t 0).val)) 0#32

/-- Whether the block after lies in the same sequence. -/
def hasNext (t : Fin cfg0.N) : BitVec 1 :=
  Scalar.cmpi .slt (Scalar.addi (start (BitVec.ofNat 32 (grid0.coords t 0).val)) 128#32)
    (Scalar.select (Scalar.cmpi .slt (Scalar.muli (BitVec.ofNat 32 (grid0.coords t 0).val) 128#32) 16384#32) 4096#32 8192#32)

/-- The mask of a grid point's scores. -/
def okm (t : Fin cfg0.N) : IVec S128x384 1 :=
  k0_pay4 (hasPrev t) (hasNext t) (iota .tc S128x384 32 [1] iota_S128x384_d1_w32) k0_pay2 k0_pay3

open Cert.Softmax in
/-- The block of results at an entry: the attention of its query over the window's keys. -/
def blockAt (ok : IVec S128x384 1) (z : Vec Ideal S16 .f32) (q : Vec Ideal S128x1024 .bf16) (ka kb kd va vb vd : Vec Ideal S128x256 .bf16)
    (r : Fin 128) (j : Fin 1024) : EReal :=
  late (fun x => ok (ix2 r x) = 1#1)
    (fun x => ∑ d : Fin 64, q (ix2 r ⟨64 * (j.val / 64) + d.val, by omega⟩) * feat ka kb kd ⟨j.val / 256, by omega⟩ x d)
    (fun x => feat va vb vd ⟨j.val / 256, by omega⟩ x ⟨j.val % 64, by omega⟩) (z (ix1 ⟨j.val / 64, by omega⟩))

/-- A stored tile holds its columns of the block. -/
theorem piece (ok : IVec S128x384 1) (z : Vec Ideal S16 .f32) (q : Vec Ideal S128x1024 .bf16) (ka kb kd va vb vd : Vec Ideal S128x256 .bf16)
    (g : Fin 8) (h : Fin 4) (hg : g.val / 2 = h.val) {kl kh vl vh : FVec Ideal S384x128 .bf16}
    (hkl : Low kl (feat ka kb kd h)) (hkh : High kh (feat ka kb kd h)) (hvl : Low vl (feat va vb vd h)) (hvh : High vh (feat va vb vd h))
    (p : Vec Ideal S128x128 .bf16) (s0 s1 : Elt Ideal .f32)
    (hp : ∀ (x : S128x128.Idx) (y : S128x1024.Idx), (y 0).val = (x 0).val → (y 1).val = 128 * g.val + (x 1).val → p x = q y)
    (hs0 : ∀ i : S16.Idx, (i 0).val = 2 * g.val → s0 = z i) (hs1 : ∀ i : S16.Idx, (i 0).val = 2 * g.val + 1 → s1 = z i)
    (x : S128x128.Idx) (y : S128x1024.Idx) (h0 : (y 0).val = (x 0).val) (h1 : (y 1).val = 128 * g.val + (x 1).val)
    (T : Vec Ideal S128x128 .bf16) (hT : T = tile ok kl kh vl vh p s0 s1) :
    T x = blockAt ok z q ka kb kd va vb vd (y 0) (y 1) := by
  subst hT
  obtain ⟨r, l, rfl⟩ : ∃ r l, x = ix2 r l := ⟨x 0, x 1, eq_ix2 x⟩
  have hr : y 0 = r := Fin.ext h0
  have hl : (y 1).val = 128 * g.val + l.val := h1
  rw [tile_at _ _ _ _ _ _ _ _ _ _ hkl hkh hvl hvh]
  unfold blockAt
  rw [hr]
  generalize y 1 = j at hl
  have e0 : (⟨j.val / 256, by omega⟩ : Fin 4) = h := Fin.ext (by simp; omega)
  have e1 : (⟨l.val % 64, by omega⟩ : Fin 64) = ⟨j.val % 64, by omega⟩ := Fin.ext (by simp; omega)
  have e2 : (if l.val < 64 then s0 else s1) = z (ix1 ⟨j.val / 64, by omega⟩) := by
    split_ifs with hlt
    · exact hs0 _ (by simp; omega)
    · exact hs1 _ (by simp; omega)
  rw [e0, e1, e2]
  congr 1
  funext x
  refine Finset.sum_congr rfl fun d _ => ?_
  rw [hp _ (ix2 r ⟨64 * (j.val / 64) + d.val, by omega⟩) rfl (by simp; omega)]

theorem out_at (c : Dev nD) (t : Fin cfg0.N) (y : S128x1024.Idx) :
    outsAt0 m c t y = blockAt (okm t) (iblk m c 0 t) (iblk m c 1 t) (iblk m c 2 t) (iblk m c 3 t) (iblk m c 4 t)
      (iblk m c 5 t) (iblk m c 6 t) (iblk m c 7 t) (y 0) (y 1) := by
  unfold outsAt0
  frame_out
  generalize ew : k0_pay4 _ _ (iota .tc S128x384 32 [1] iota_S128x384_d1_w32) k0_pay2 k0_pay3 = ok
  have eo : ok = okm t := ew.symm
  rw [← eo]
  clear eo ew
  canon_tiles x h
  case piece0 =>
    refine piece ok (iblk m c 0 t) (iblk m c 1 t) (iblk m c 2 t) (iblk m c 3 t) (iblk m c 4 t) (iblk m c 5 t) (iblk m c 6 t) (iblk m c 7 t)
      7 3 rfl (low3 _ _ _) (high3 _ _ _) (vh := k0_pay88 (k0_pay6 (iblk m c 5 t) (iblk m c 6 t) (iblk m c 7 t)) (k0_pay81 lanes)) (vl := k0_pay87 (k0_pay6 (iblk m c 5 t) (iblk m c 6 t) (iblk m c 7 t)) (k0_pay81 lanes)) (low3 _ _ _) (high3 _ _ _)
      (View.ld (iblk m c 1 t) (Rect.unit ![0, 896] ![128, 128] inb_S128x1024_S128x128_0_896))
      (View.ld (iblk m c 0 t) (Rect.unit ![14] ![1] inb_S16_S1_14) (Shape.Idx.first (show 0 < S1.numel by decide)))
      (View.ld (iblk m c 0 t) (Rect.unit ![15] ![1] inb_S16_S1_15) (Shape.Idx.first (show 0 < S1.numel by decide)))
      (fun u w u0 u1 => View.ld_unit_apply_of _ _ _ _ _ _ (Fin.forall_fin_two.mpr ⟨u0.trans (Nat.zero_add _).symm, u1⟩))
      (fun i i0 => View.ld_unit_apply_of _ _ _ _ _ _ (Fin.forall_fin_one.mpr i0))
      (fun i i0 => View.ld_unit_apply_of _ _ _ _ _ _ (Fin.forall_fin_one.mpr i0))
      x y h0 h1 _ ?_
    rfl
  case piece1 =>
    refine piece ok (iblk m c 0 t) (iblk m c 1 t) (iblk m c 2 t) (iblk m c 3 t) (iblk m c 4 t) (iblk m c 5 t) (iblk m c 6 t) (iblk m c 7 t)
      6 3 rfl (low3 _ _ _) (high3 _ _ _) (vh := k0_pay88 (k0_pay6 (iblk m c 5 t) (iblk m c 6 t) (iblk m c 7 t)) (k0_pay81 lanes)) (vl := k0_pay87 (k0_pay6 (iblk m c 5 t) (iblk m c 6 t) (iblk m c 7 t)) (k0_pay81 lanes)) (low3 _ _ _) (high3 _ _ _)
      (View.ld (iblk m c 1 t) (Rect.unit ![0, 768] ![128, 128] inb_S128x1024_S128x128_0_768))
      (View.ld (iblk m c 0 t) (Rect.unit ![12] ![1] inb_S16_S1_12) (Shape.Idx.first (show 0 < S1.numel by decide)))
      (View.ld (iblk m c 0 t) (Rect.unit ![13] ![1] inb_S16_S1_13) (Shape.Idx.first (show 0 < S1.numel by decide)))
      (fun u w u0 u1 => View.ld_unit_apply_of _ _ _ _ _ _ (Fin.forall_fin_two.mpr ⟨u0.trans (Nat.zero_add _).symm, u1⟩))
      (fun i i0 => View.ld_unit_apply_of _ _ _ _ _ _ (Fin.forall_fin_one.mpr i0))
      (fun i i0 => View.ld_unit_apply_of _ _ _ _ _ _ (Fin.forall_fin_one.mpr i0))
      x y h0 h1 _ ?_
    rfl
  case piece2 =>
    refine piece ok (iblk m c 0 t) (iblk m c 1 t) (iblk m c 2 t) (iblk m c 3 t) (iblk m c 4 t) (iblk m c 5 t) (iblk m c 6 t) (iblk m c 7 t)
      5 2 rfl (low2 _ _ _) (high2 _ _ _) (vh := k0_pay68 (k0_pay6 (iblk m c 5 t) (iblk m c 6 t) (iblk m c 7 t)) lanes) (vl := k0_pay67 (k0_pay6 (iblk m c 5 t) (iblk m c 6 t) (iblk m c 7 t)) lanes) (low2 _ _ _) (high2 _ _ _)
      (View.ld (iblk m c 1 t) (Rect.unit ![0, 640] ![128, 128] inb_S128x1024_S128x128_0_640))
      (View.ld (iblk m c 0 t) (Rect.unit ![10] ![1] inb_S16_S1_10) (Shape.Idx.first (show 0 < S1.numel by decide)))
      (View.ld (iblk m c 0 t) (Rect.unit ![11] ![1] inb_S16_S1_11) (Shape.Idx.first (show 0 < S1.numel by decide)))
      (fun u w u0 u1 => View.ld_unit_apply_of _ _ _ _ _ _ (Fin.forall_fin_two.mpr ⟨u0.trans (Nat.zero_add _).symm, u1⟩))
      (fun i i0 => View.ld_unit_apply_of _ _ _ _ _ _ (Fin.forall_fin_one.mpr i0))
      (fun i i0 => View.ld_unit_apply_of _ _ _ _ _ _ (Fin.forall_fin_one.mpr i0))
      x y h0 h1 _ ?_
    rfl
  case piece3 =>
    refine piece ok (iblk m c 0 t) (iblk m c 1 t) (iblk m c 2 t) (iblk m c 3 t) (iblk m c 4 t) (iblk m c 5 t) (iblk m c 6 t) (iblk m c 7 t)
      4 2 rfl (low2 _ _ _) (high2 _ _ _) (vh := k0_pay68 (k0_pay6 (iblk m c 5 t) (iblk m c 6 t) (iblk m c 7 t)) lanes) (vl := k0_pay67 (k0_pay6 (iblk m c 5 t) (iblk m c 6 t) (iblk m c 7 t)) lanes) (low2 _ _ _) (high2 _ _ _)
      (View.ld (iblk m c 1 t) (Rect.unit ![0, 512] ![128, 128] inb_S128x1024_S128x128_0_512))
      (View.ld (iblk m c 0 t) (Rect.unit ![8] ![1] inb_S16_S1_8) (Shape.Idx.first (show 0 < S1.numel by decide)))
      (View.ld (iblk m c 0 t) (Rect.unit ![9] ![1] inb_S16_S1_9) (Shape.Idx.first (show 0 < S1.numel by decide)))
      (fun u w u0 u1 => View.ld_unit_apply_of _ _ _ _ _ _ (Fin.forall_fin_two.mpr ⟨u0.trans (Nat.zero_add _).symm, u1⟩))
      (fun i i0 => View.ld_unit_apply_of _ _ _ _ _ _ (Fin.forall_fin_one.mpr i0))
      (fun i i0 => View.ld_unit_apply_of _ _ _ _ _ _ (Fin.forall_fin_one.mpr i0))
      x y h0 h1 _ ?_
    rfl
  case piece4 =>
    refine piece ok (iblk m c 0 t) (iblk m c 1 t) (iblk m c 2 t) (iblk m c 3 t) (iblk m c 4 t) (iblk m c 5 t) (iblk m c 6 t) (iblk m c 7 t)
      3 1 rfl (low1 _ _ _) (high1 _ _ _) (vh := k0_pay44 (k0_pay6 (iblk m c 5 t) (iblk m c 6 t) (iblk m c 7 t)) lanes) (vl := k0_pay43 (k0_pay6 (iblk m c 5 t) (iblk m c 6 t) (iblk m c 7 t)) lanes) (low1 _ _ _) (high1 _ _ _)
      (View.ld (iblk m c 1 t) (Rect.unit ![0, 384] ![128, 128] inb_S128x1024_S128x128_0_384))
      (View.ld (iblk m c 0 t) (Rect.unit ![6] ![1] inb_S16_S1_6) (Shape.Idx.first (show 0 < S1.numel by decide)))
      (View.ld (iblk m c 0 t) (Rect.unit ![7] ![1] inb_S16_S1_7) (Shape.Idx.first (show 0 < S1.numel by decide)))
      (fun u w u0 u1 => View.ld_unit_apply_of _ _ _ _ _ _ (Fin.forall_fin_two.mpr ⟨u0.trans (Nat.zero_add _).symm, u1⟩))
      (fun i i0 => View.ld_unit_apply_of _ _ _ _ _ _ (Fin.forall_fin_one.mpr i0))
      (fun i i0 => View.ld_unit_apply_of _ _ _ _ _ _ (Fin.forall_fin_one.mpr i0))
      x y h0 h1 _ ?_
    rfl
  case piece5 =>
    refine piece ok (iblk m c 0 t) (iblk m c 1 t) (iblk m c 2 t) (iblk m c 3 t) (iblk m c 4 t) (iblk m c 5 t) (iblk m c 6 t) (iblk m c 7 t)
      2 1 rfl (low1 _ _ _) (high1 _ _ _) (vh := k0_pay44 (k0_pay6 (iblk m c 5 t) (iblk m c 6 t) (iblk m c 7 t)) lanes) (vl := k0_pay43 (k0_pay6 (iblk m c 5 t) (iblk m c 6 t) (iblk m c 7 t)) lanes) (low1 _ _ _) (high1 _ _ _)
      (View.ld (iblk m c 1 t) (Rect.unit ![0, 256] ![128, 128] inb_S128x1024_S128x128_0_256))
      (View.ld (iblk m c 0 t) (Rect.unit ![4] ![1] inb_S16_S1_4) (Shape.Idx.first (show 0 < S1.numel by decide)))
      (View.ld (iblk m c 0 t) (Rect.unit ![5] ![1] inb_S16_S1_5) (Shape.Idx.first (show 0 < S1.numel by decide)))
      (fun u w u0 u1 => View.ld_unit_apply_of _ _ _ _ _ _ (Fin.forall_fin_two.mpr ⟨u0.trans (Nat.zero_add _).symm, u1⟩))
      (fun i i0 => View.ld_unit_apply_of _ _ _ _ _ _ (Fin.forall_fin_one.mpr i0))
      (fun i i0 => View.ld_unit_apply_of _ _ _ _ _ _ (Fin.forall_fin_one.mpr i0))
      x y h0 h1 _ ?_
    rfl
  case piece6 =>
    refine piece ok (iblk m c 0 t) (iblk m c 1 t) (iblk m c 2 t) (iblk m c 3 t) (iblk m c 4 t) (iblk m c 5 t) (iblk m c 6 t) (iblk m c 7 t)
      1 0 rfl (low0 _ _ _) (high0 _ _ _) (vh := k0_pay13 (iblk m c 5 t) (iblk m c 6 t) (iblk m c 7 t)) (vl := k0_pay12 (iblk m c 5 t) (iblk m c 6 t) (iblk m c 7 t)) (low0 _ _ _) (high0 _ _ _)
      (View.ld (iblk m c 1 t) (Rect.unit ![0, 128] ![128, 128] inb_S128x1024_S128x128_0_128))
      (View.ld (iblk m c 0 t) (Rect.unit ![2] ![1] inb_S16_S1_2) (Shape.Idx.first (show 0 < S1.numel by decide)))
      (View.ld (iblk m c 0 t) (Rect.unit ![3] ![1] inb_S16_S1_3) (Shape.Idx.first (show 0 < S1.numel by decide)))
      (fun u w u0 u1 => View.ld_unit_apply_of _ _ _ _ _ _ (Fin.forall_fin_two.mpr ⟨u0.trans (Nat.zero_add _).symm, u1⟩))
      (fun i i0 => View.ld_unit_apply_of _ _ _ _ _ _ (Fin.forall_fin_one.mpr i0))
      (fun i i0 => View.ld_unit_apply_of _ _ _ _ _ _ (Fin.forall_fin_one.mpr i0))
      x y h0 h1 _ ?_
    rfl
  case piece7 =>
    refine piece ok (iblk m c 0 t) (iblk m c 1 t) (iblk m c 2 t) (iblk m c 3 t) (iblk m c 4 t) (iblk m c 5 t) (iblk m c 6 t) (iblk m c 7 t)
      0 0 rfl (low0 _ _ _) (high0 _ _ _) (vh := k0_pay13 (iblk m c 5 t) (iblk m c 6 t) (iblk m c 7 t)) (vl := k0_pay12 (iblk m c 5 t) (iblk m c 6 t) (iblk m c 7 t)) (low0 _ _ _) (high0 _ _ _)
      (View.ld (iblk m c 1 t) (Rect.unit ![0, 0] ![128, 128] inb_S128x1024_S128x128_0_0))
      (View.ld (iblk m c 0 t) (Rect.unit ![0] ![1] inb_S16_S1_0) (Shape.Idx.first (show 0 < S1.numel by decide)))
      (View.ld (iblk m c 0 t) (Rect.unit ![1] ![1] inb_S16_S1_1) (Shape.Idx.first (show 0 < S1.numel by decide)))
      (fun u w u0 u1 => View.ld_unit_apply_of _ _ _ _ _ _ (Fin.forall_fin_two.mpr ⟨u0.trans (Nat.zero_add _).symm, u1⟩))
      (fun i i0 => View.ld_unit_apply_of _ _ _ _ _ _ (Fin.forall_fin_one.mpr i0))
      (fun i i0 => View.ld_unit_apply_of _ _ _ _ _ _ (Fin.forall_fin_one.mpr i0))
      x y h0 (h1.trans (Nat.zero_add _).symm) _ ?_
    rfl

end Cert.AttnIdeal.Hand
end
-- ==== Proof.AttnMask.lean ====
/- The attention kernel's mask of scores, in terms of row numbers. -/
module

public import proofs.«01_k».proof.Proof.AttnPoint
public import proofs.«01_k».proof.Proof.Near

@[expose] public section

set_option maxRecDepth 16384

noncomputable section

open Idealize.ShloMosaic Idealize.ShloMosaic.TcCoe Idealize.SL.Sem
open Idealize.ShloMosaic.Pipeline (Dat)

namespace Cert.AttnIdeal.Hand

open Cert.AttnIdeal Cert.AttnIdeal.Gen Cert.Near

theorem prev_iff : ∀ t : Fin grid0.N, hasPrev t = 1#1 ↔ (if t.val < 128 then t.val / 32 * 4096 else 16384 + (t.val - 128) / 64 * 8192) < 128 * t.val := by
  decide +kernel

theorem next_iff : ∀ t : Fin grid0.N, hasNext t = 1#1 ↔
    128 * t.val + 128 < (if t.val < 128 then t.val / 32 * 4096 + 4096 else 16384 + (t.val - 128) / 64 * 8192 + 8192) := by
  decide +kernel

theorem okm_at (t : Fin cfg0.N) (r : Fin 128) (x : Fin 384) : okm t (ix2 r x) = 1#1 ↔
    (r.val ≤ x.val ∧ x.val ≤ r.val + 256) ∧ (128 ≤ x.val ∨ hasPrev t = 1#1) ∧ (x.val < 256 ∨ hasNext t = 1#1) := by
  unfold okm
  pointwise [k0_pay4, k0_pay2, k0_pay3]
  rw [sub_sub_word, and_one, and_one, or_one, or_one, near _ _ (by omega) (by omega), sge_word, slt_word, and_assoc]
  exact and_congr (by omega) Iff.rfl

end Cert.AttnIdeal.Hand
end
-- ==== Proof.AttnSeq.lean ====
/- Attention over one sequence's keys, and the window of keys that holds the unmasked ones. -/
module

public import proofs.«01_k».proof.Proof.Softmax

@[expose] public section

set_option maxRecDepth 16384

noncomputable section

namespace Cert.AttnSeq

open Cert.Softmax Idealize.ShloMosaic

/-- Attention, from its scores with the masked ones put at minus infinity and their largest. -/
theorem att_of {S : ℕ} {ok : Fin S → Prop} [DecidablePred ok] {s v Y V : Fin S → EReal} {z Z M : EReal}
    (hY : ∀ p, Y p = if ok p then s p else ⊥) (hM : M = max (Finset.univ.fold max ⊥ Y) Z) (hZ : Z = z) (hV : ∀ p, V p = v p) :
    ∑ p, V p * Ideal.div (Ideal.exp (Y p - M)) (∑ p, Ideal.exp (Y p - M) + Ideal.exp (Z - M)) = att ok s v z := by
  obtain rfl : Y = fun p => if ok p then s p else ⊥ := funext hY
  obtain rfl : V = v := funext hV
  subst hM hZ
  rfl

/-- The row of a number below the row count. -/
abbrev row (n : ℕ) : Fin 49152 := ⟨n % 49152, by omega⟩

variable (z : Fin 16 → EReal) (q : Fin 49152 → Fin 1024 → EReal) (k v : Fin 49152 → Fin 256 → EReal)

/-- The score of a query row against a key row, in the head of a column. -/
def score (n p : ℕ) (j : Fin 1024) : EReal :=
  ∑ d : Fin 64, q (row n) ⟨64 * (j.val / 64) + d.val, by omega⟩ * k (row p) ⟨64 * (j.val / 256) + d.val, by omega⟩

/-- The value row's entry for a column. -/
def value (p : ℕ) (j : Fin 1024) : EReal := v (row p) ⟨64 * (j.val / 256) + j.val % 64, by omega⟩

/-- A column of row `n`'s attention over the `S` rows from row `b`. -/
def seqAt (S b n : ℕ) (j : Fin 1024) : EReal :=
  att (fun K : Fin S => n ≤ b + K.val + 128 ∧ b + K.val ≤ n + 128) (fun K => score q k n (b + K.val) j)
    (fun K => value v (b + K.val) j) (z ⟨j.val / 64, by omega⟩)

/-- Every row's attention over its own sequence. -/
def whole (n : Fin 49152) (j : Fin 1024) : EReal :=
  if n.val < 16384 then seqAt z q k v 4096 (n.val / 4096 * 4096) n.val j
  else seqAt z q k v 8192 (16384 + (n.val - 16384) / 8192 * 8192) n.val j

variable {z q k v}

theorem score_ne_top (hq : ∀ a b, q a b ≠ ⊥ ∧ q a b ≠ ⊤) (hk : ∀ a b, k a b ≠ ⊥ ∧ k a b ≠ ⊤) (n p : ℕ) (j : Fin 1024) :
    score q k n p j ≠ ⊤ := dot_ne_top _ _ (fun _ => hq _ _) (fun _ => hk _ _)

/-- The three blocks of keys around a query's block hold every key its attention is over. -/
theorem window (hz : ∀ a, z a ≠ ⊥ ∧ z a ≠ ⊤) (hq : ∀ a b, q a b ≠ ⊥ ∧ q a b ≠ ⊤) (hk : ∀ a b, k a b ≠ ⊥ ∧ k a b ≠ ⊤)
    (S b t r : ℕ) (hS : 128 ≤ S) (hb : b ≤ 128 * t) (hb' : 128 * t + 128 ≤ b + S) (hr : r < 128) (j : Fin 1024)
    (hd : b % 128 = 0) (hd' : S % 128 = 0)
    (ok : Fin 384 → Prop) [DecidablePred ok] (s u : Fin 384 → EReal) (a : EReal) (ha : a = z ⟨j.val / 64, by omega⟩)
    (hok : ∀ x, ok x ↔ (r ≤ x.val ∧ x.val ≤ r + 256) ∧ (128 ≤ x.val ∨ b < 128 * t) ∧ (x.val < 256 ∨ 128 * t + 128 < b + S))
    (hs : ∀ x, ok x → s x = score q k (128 * t + r) (128 * t + x.val - 128) j)
    (hu : ∀ x, ok x → u x = value v (128 * t + x.val - 128) j) :
    late ok s u a = seqAt z q k v S b (128 * t + r) j := by
  subst ha
  have hz0 := hz ⟨j.val / 64, by omega⟩
  rw [late_eq hz0.1 hz0.2 fun x hx => by rw [hs x hx]; exact score_ne_top hq hk _ _ _]
  unfold seqAt
  refine att_congr (fun x => ⟨min (128 * t + x.val - 128 - b) (S - 1), by omega⟩) (fun K => ⟨min (b + K.val + 128 - 128 * t) 383, by omega⟩)
    hz0.1 hz0.2 (fun _ _ => score_ne_top hq hk _ _ _) (fun x hx => ?_) (fun K hK => ?_)
  · have h := (hok x).1 hx
    rw [hs x hx, hu x hx]
    have e : b + min (128 * t + x.val - 128 - b) (S - 1) = 128 * t + x.val - 128 := by omega
    refine ⟨?_, Fin.ext ?_, ?_, ?_⟩
    · show _ ≤ _ ∧ _ ≤ _
      dsimp only
      omega
    · dsimp only; omega
    · dsimp only; rw [e]
    · dsimp only; rw [e]
  · have hl := K.isLt
    refine ⟨(hok _).2 ?_, Fin.ext ?_⟩
    · dsimp only; omega
    · dsimp only; omega

end Cert.AttnSeq
end
-- ==== Proof.AttnFinal.lean ====
/- The attention kernel's result array. -/
module

public import proofs.«01_k».proof.Proof.AttnMask
public import proofs.«01_k».proof.Proof.AttnSeq

@[expose] public section

set_option maxRecDepth 16384

noncomputable section

open Idealize.ShloMosaic Idealize.ShloMosaic.TcCoe Idealize.SL.Sem
open Idealize.ShloMosaic.Pipeline (Dat)

namespace Cert.AttnIdeal.Hand

open Cert.AttnIdeal Cert.AttnIdeal.Gen Cert.AttnSeq

variable (m : (ℓ : Loc nD τ sig) → Buf (Elt Ideal) ℓ)

theorem idx : ∀ t : Fin cfg0.N,
    win0_1.index t = ![t.val, 0] ∧ win0_2.index t = ![t.val - 1, 0] ∧ win0_3.index t = ![t.val, 0] ∧ win0_4.index t = ![min (t.val + 1) 383, 0]
    ∧ win0_5.index t = ![t.val - 1, 0] ∧ win0_6.index t = ![t.val, 0] ∧ win0_7.index t = ![min (t.val + 1) 383, 0] ∧ win0_8.index t = ![t.val, 0]
    ∧ win0_0.index t = ![0] :=
  (by decide +kernel : ∀ t : Fin grid0.N, _)

/-- The sinks. -/
abbrev sinks (c : Dev nD) : Fin 16 → EReal := fun a => m ((c : Thread nD τ).loc main_arg0) (ix2 0 a)
/-- The queries. -/
abbrev queries (c : Dev nD) : Fin 49152 → Fin 1024 → EReal := fun a b => m ((c : Thread nD τ).loc main_arg1) (ix2 a b)
/-- The keys. -/
abbrev keys (c : Dev nD) : Fin 49152 → Fin 256 → EReal := fun a b => m ((c : Thread nD τ).loc main_arg2) (ix2 a b)
/-- The values. -/
abbrev vals (c : Dev nD) : Fin 49152 → Fin 256 → EReal := fun a b => m ((c : Thread nD τ).loc main_arg3) (ix2 a b)

theorem points : cfg0.N = 384 := by decide +kernel

theorem sink_at (c : Dev nD) (t : Fin cfg0.N) (a : Fin 16) : iblk m c 0 t (ix1 a) = sinks m c a := by
  blk_simp [iblk, V, idx t]
  unfold hostOps0
  after_results
  pointwise
  blk_ext [idx t]

theorem query_at (c : Dev nD) (t : Fin cfg0.N) (r : Fin 128) (e : Fin 1024) :
    iblk m c 1 t (ix2 r e) = queries m c (row (128 * t.val + r.val)) e := by
  have ht : t.val < 384 := lt_of_lt_of_eq t.isLt points
  blk_ext [iblk, V, idx t]

theorem key_at (c : Dev nD) (t : Fin cfg0.N) (h : Fin 4) (x : Fin 384) (e : Fin 64) (hp : x.val < 128 → 0 < t.val) (hn : 256 ≤ x.val → t.val < 383) :
    feat (iblk m c 2 t) (iblk m c 3 t) (iblk m c 4 t) h x e = keys m c (row (128 * t.val + x.val - 128)) ⟨64 * h.val + e.val, by omega⟩ := by
  have ht : t.val < 384 := lt_of_lt_of_eq t.isLt points
  rw [feat_at]
  split_ifs with h1 h2
  · have := hp h1
    blk_ext [iblk, V, idx t]
  · blk_ext [iblk, V, idx t]
  · have := hn (by omega)
    blk_ext [iblk, V, idx t]

theorem val_at (c : Dev nD) (t : Fin cfg0.N) (h : Fin 4) (x : Fin 384) (e : Fin 64) (hp : x.val < 128 → 0 < t.val) (hn : 256 ≤ x.val → t.val < 383) :
    feat (iblk m c 5 t) (iblk m c 6 t) (iblk m c 7 t) h x e = vals m c (row (128 * t.val + x.val - 128)) ⟨64 * h.val + e.val, by omega⟩ := by
  have ht : t.val < 384 := lt_of_lt_of_eq t.isLt points
  rw [feat_at]
  split_ifs with h1 h2
  · have := hp h1
    blk_ext [iblk, V, idx t]
  · blk_ext [iblk, V, idx t]
  · have := hn (by omega)
    blk_ext [iblk, V, idx t]

theorem point (c : Dev nD) (h0 : ∀ a, sinks m c a ≠ ⊥ ∧ sinks m c a ≠ ⊤) (h1 : ∀ a b, queries m c a b ≠ ⊥ ∧ queries m c a b ≠ ⊤)
    (h2 : ∀ a b, keys m c a b ≠ ⊥ ∧ keys m c a b ≠ ⊤) (t : Fin cfg0.N) (S b : ℕ)
    (hp : hasPrev t = 1#1 ↔ b < 128 * t.val) (hn : hasNext t = 1#1 ↔ 128 * t.val + 128 < b + S)
    (hS : 128 ≤ S) (hb : b ≤ 128 * t.val) (hb' : 128 * t.val + 128 ≤ b + S) (hl : b + S ≤ 49152) (hd : b % 128 = 0) (hd' : S % 128 = 0)
    (r : Fin 128) (j : Fin 1024) :
    blockAt (okm t) (iblk m c 0 t) (iblk m c 1 t) (iblk m c 2 t) (iblk m c 3 t) (iblk m c 4 t) (iblk m c 5 t) (iblk m c 6 t) (iblk m c 7 t) r j
      = seqAt (sinks m c) (queries m c) (keys m c) (vals m c) S b (128 * t.val + r.val) j := by
  unfold blockAt
  have hok : ∀ x : Fin 384, okm t (ix2 r x) = 1#1 ↔
      (r.val ≤ x.val ∧ x.val ≤ r.val + 256) ∧ (128 ≤ x.val ∨ b < 128 * t.val) ∧ (x.val < 256 ∨ 128 * t.val + 128 < b + S) := fun x => by
    rw [okm_at, hp, hn]
  refine window h0 h1 h2 S b t.val r.val hS hb hb' r.isLt j hd hd' _ _ _ _ (sink_at m c t _) hok (fun x hx => ?_) (fun x hx => ?_)
  · have hx' := (hok x).1 hx
    refine Finset.sum_congr rfl fun d _ => ?_
    rw [query_at, key_at m c t _ x d (fun _ => by omega) (fun _ => by omega)]
  · have hx' := (hok x).1 hx
    exact val_at m c t _ x _ (fun _ => by omega) (fun _ => by omega)

theorem final (c : Dev nD) (h0 : ∀ a, sinks m c a ≠ ⊥ ∧ sinks m c a ≠ ⊤) (h1 : ∀ a b, queries m c a b ≠ ⊥ ∧ queries m c a b ≠ ⊤)
    (h2 : ∀ a b, keys m c a b ≠ ⊥ ∧ keys m c a b ≠ ⊤) :
    (dats m 0 c).arrAt 8 cfg0.N = fun i : S49152x1024.Idx => whole (sinks m c) (queries m c) (keys m c) (vals m c) (i 0) (i 1) := by
  refine (dats m 0 c).arrAt_eq_of_covers 8 _ (by decide +kernel) fun t hf y => ?_
  blk_simp
  rw [after0_8, out_at]
  have ht : t.val < 384 := lt_of_lt_of_eq t.isLt points
  have hp := prev_iff t
  have hn := next_iff t
  have hy : (y 0).val < 128 := (y 0).isLt
  have e0 : ((win0_8.blk t).view.emb y 0).val = 128 * t.val + (y 0).val := by
    blk_simp [idx t]
    omega
  have e1 : (win0_8.blk t).view.emb y 1 = y 1 := by
    refine Fin.ext ?_
    blk_simp [idx t]
    try omega
  rw [e1]
  unfold whole
  rw [e0]
  by_cases h : t.val < 128
  · rw [if_pos h] at hp hn
    rw [if_pos (by omega), show (128 * t.val + (y 0).val) / 4096 * 4096 = t.val / 32 * 4096 by omega]
    exact point m c h0 h1 h2 t 4096 _ hp hn (by omega) (by omega) (by omega) (by omega) (by omega) (by omega) _ _
  · rw [if_neg h] at hp hn
    rw [if_neg (by omega), show 16384 + (128 * t.val + (y 0).val - 16384) / 8192 * 8192 = 16384 + (t.val - 128) / 64 * 8192 by omega]
    exact point m c h0 h1 h2 t 8192 _ hp hn (by omega) (by omega) (by omega) (by omega) (by omega) (by omega) _ _

end Cert.AttnIdeal.Hand
end
-- ==== Proof.AttnRef.lean ====
/- The attention reference's array, row by row. -/
module

public import proofs.«01_k».proof.Proof.Gen.AttnRefIdeal.Read
public import proofs.«01_k».proof.Proof.AttnSeq
public import proofs.«01_k».proof.Proof.Near
public import Idealize.ShloMosaic.Lib.Pipeline.ValueKit

@[expose] public section

set_option maxRecDepth 16384

noncomputable section

open Idealize.ShloMosaic Idealize.ShloMosaic.TcCoe Idealize.SL.Sem

namespace Cert.AttnRefIdeal.Hand

open Cert.AttnRefIdeal Cert.AttnRefIdeal.Read Cert.Softmax Cert.AttnSeq Cert.Near

variable (x0 : (⟨S1x16, .f32⟩ : BufTy).Contents (Elt Ideal)) (x1 : (⟨S49152x1024, .bf16⟩ : BufTy).Contents (Elt Ideal))
  (x2 x3 : (⟨S49152x256, .bf16⟩ : BufTy).Contents (Elt Ideal))

theorem masked (b h g : Fin 4) (n p : Fin 4096) : val_main_v30 (F := Ideal) x1 x2 (ix5 b h g n p)
    = if n.val ≤ p.val + 128 ∧ p.val ≤ n.val + 128
        then ∑ d : Fin 64, x1 (ix2 ⟨4096 * b.val + n.val, by omega⟩ ⟨64 * (4 * h.val + g.val) + d.val, by omega⟩)
          * x2 (ix2 ⟨4096 * b.val + p.val, by omega⟩ ⟨64 * h.val + d.val, by omega⟩)
        else ⊥ := by
  pointwise [val_main_v30, val_main_call0_v1, val_main_v29, val_main_v27, val_main_v26, val_main_v24, val_main_v25, val_main_v22, val_main_v23, val_main_v19, val_main_v28, val_main_c, val_main_call0_v2, val_main_call0_v0, val_main_cst,
    val_main_v21, val_main_v20, val_main_v17, val_main_v8, val_main_v7, val_main_v1, val_main_v16, val_main_v4, val_main_v3, val_main_v0]
  rw [select_one]
  refine if_congr (near _ _ (by omega) (by omega)) (Finset.sum_congr rfl fun d _ => ?_) minf
  rw [mul_comm]
  blk_point

theorem topv (b h g : Fin 4) (n : Fin 4096) : val_main_v32 (F := Ideal) x1 x2 (ix4 b h g n)
    = Finset.univ.fold max (val_main_cst_0 (F := Ideal) (Shape.Idx.first Gen.h_S_)) fun p : Fin 4096 => val_main_v30 (F := Ideal) x1 x2 (ix5 b h g n p) := by
  pointwise [val_main_v32]

end Cert.AttnRefIdeal.Hand
end
-- ==== Proof.AttnTop.lean ====
/- The attention reference's array, row by row. -/
module

public import proofs.«01_k».proof.Proof.Gen.AttnRefIdeal.Read
public import proofs.«01_k».proof.Proof.AttnSeq
public import proofs.«01_k».proof.Proof.AttnRef
public import Idealize.ShloMosaic.Lib.Pipeline.ValueKit

@[expose] public section

set_option maxRecDepth 16384

noncomputable section

open Idealize.ShloMosaic Idealize.ShloMosaic.TcCoe Idealize.SL.Sem

namespace Cert.AttnRefIdeal.Hand

open Cert.AttnRefIdeal Cert.AttnRefIdeal.Read Cert.Softmax Cert.AttnSeq Cert.Near

variable (x0 : (⟨S1x16, .f32⟩ : BufTy).Contents (Elt Ideal)) (x1 : (⟨S49152x1024, .bf16⟩ : BufTy).Contents (Elt Ideal))
  (x2 x3 : (⟨S49152x256, .bf16⟩ : BufTy).Contents (Elt Ideal))

theorem topz (b h g : Fin 4) (n : Fin 4096) (e : Fin 1) : val_main_v36 (F := Ideal) x0 x1 x2 (ix5 b h g n e)
    = max (val_main_v32 (F := Ideal) x1 x2 (ix4 b h g n)) (x0 (ix2 0 ⟨4 * h.val + g.val, by omega⟩)) := by
  have ei : idx_main_v33 (ix5 b h g n e) = ix4 b h g n := by
    funext a
    match a with
    | ⟨0, _⟩ => rfl
    | ⟨1, _⟩ => rfl
    | ⟨2, _⟩ => rfl
    | ⟨3, _⟩ => rfl
  have es : val_main_v35 (F := Ideal) x0 (ix5 b h g n e) = x0 (ix2 0 ⟨4 * h.val + g.val, by omega⟩) := by
    pointwise [val_main_v35, val_main_v34, val_main_v31, val_main_v15]
    blk_point
  rw [val_main_v36_apply, val_main_v33_apply, ei, es]
  generalize val_main_v32 (F := Ideal) x1 x2 (ix4 b h g n) = u
  rfl

theorem topm (b h g : Fin 4) (n : Fin 4096) (e : Fin 1) : val_main_v36 (F := Ideal) x0 x1 x2 (ix5 b h g n e)
    = max (Finset.univ.fold max ⊥ fun p : Fin 4096 => val_main_v30 (F := Ideal) x1 x2 (ix5 b h g n p)) (x0 (ix2 0 ⟨4 * h.val + g.val, by omega⟩)) := by
  rw [topz, topv, show val_main_cst_0 (F := Ideal) (Shape.Idx.first Gen.h_S_) = ⊥ from minf]

end Cert.AttnRefIdeal.Hand
end
-- ==== Proof.AttnRefB.lean ====
/- The attention reference's array, row by row. -/
module

public import proofs.«01_k».proof.Proof.Gen.AttnRefIdeal.Read
public import proofs.«01_k».proof.Proof.AttnSeq
public import proofs.«01_k».proof.Proof.AttnTop
public import Idealize.ShloMosaic.Lib.Pipeline.ValueKit

@[expose] public section

set_option maxRecDepth 16384

noncomputable section

open Idealize.ShloMosaic Idealize.ShloMosaic.TcCoe Idealize.SL.Sem

namespace Cert.AttnRefIdeal.Hand

open Cert.AttnRefIdeal Cert.AttnRefIdeal.Read Cert.Softmax Cert.AttnSeq Cert.Near

variable (x0 : (⟨S1x16, .f32⟩ : BufTy).Contents (Elt Ideal)) (x1 : (⟨S49152x1024, .bf16⟩ : BufTy).Contents (Elt Ideal))
  (x2 x3 : (⟨S49152x256, .bf16⟩ : BufTy).Contents (Elt Ideal))

theorem weight_at (b h g : Fin 4) (n p : Fin 4096) : val_main_v39 (F := Ideal) x0 x1 x2 (ix5 b h g n p)
    = Ideal.exp (val_main_v30 (F := Ideal) x1 x2 (ix5 b h g n p) - val_main_v36 (F := Ideal) x0 x1 x2 (ix5 b h g n 0)) := by
  have ei : idx_main_v37 (ix5 b h g n p) = ix5 b h g n 0 := by
    funext a
    match a with
    | ⟨0, _⟩ => rfl
    | ⟨1, _⟩ => rfl
    | ⟨2, _⟩ => rfl
    | ⟨3, _⟩ => rfl
    | ⟨4, _⟩ => rfl
  rw [val_main_v39_apply, val_main_v38_apply, val_main_v37_apply, ei]
  generalize val_main_v30 (F := Ideal) x1 x2 (ix5 b h g n p) = u
  generalize val_main_v36 (F := Ideal) x0 x1 x2 (ix5 b h g n 0) = w
  rfl

theorem den_at (b h g : Fin 4) (n p : Fin 4096) : val_main_v47 (F := Ideal) x0 x1 x2 (ix5 b h g n p)
    = ∑ k : Fin 4096, val_main_v39 (F := Ideal) x0 x1 x2 (ix5 b h g n k)
      + Ideal.exp (x0 (ix2 0 ⟨4 * h.val + g.val, by omega⟩) - val_main_v36 (F := Ideal) x0 x1 x2 (ix5 b h g n 0)) := by
  have e47 : idx_main_v47 (ix5 b h g n p) = ix5 b h g n 0 := by
    funext a
    match a with
    | ⟨0, _⟩ => rfl
    | ⟨1, _⟩ => rfl
    | ⟨2, _⟩ => rfl
    | ⟨3, _⟩ => rfl
    | ⟨4, _⟩ => rfl
  have e40 : ∀ k, idx_main_v40 (idx_main_v41 (ix5 b h g n 0)) k = ix5 b h g n k := fun k => by
    funext a
    match a with
    | ⟨0, _⟩ => rfl
    | ⟨1, _⟩ => rfl
    | ⟨2, _⟩ => rfl
    | ⟨3, _⟩ => rfl
    | ⟨4, _⟩ => rfl
  have e43 : val_main_v43 (F := Ideal) x0 (ix5 b h g n 0) = x0 (ix2 0 ⟨4 * h.val + g.val, by omega⟩) := by
    pointwise [val_main_v43, val_main_v42, val_main_v31, val_main_v15]
    blk_point
  have e0 : val_main_cst_1 (F := Ideal) (Shape.Idx.first Gen.h_S_) = (0 : EReal) := by
    pointwise [val_main_cst_1]
  rw [val_main_v47_apply, e47, val_main_v46_apply, val_main_v41_apply, val_main_v40_apply, val_main_v45_apply, val_main_v44_apply, e43, e0]
  simp only [e40]
  generalize (fun k => val_main_v39 (F := Ideal) x0 x1 x2 (ix5 b h g n k)) = u
  generalize val_main_v36 (F := Ideal) x0 x1 x2 (ix5 b h g n 0) = w
  rw [zero_add]
  rfl

theorem out_sum (n : Fin 16384) (j : Fin 1024) : val_main_v51 (F := Ideal) x0 x1 x2 x3 (ix2 n j)
    = ∑ p : Fin 4096, val_main_v18 (F := Ideal) x3 (ix4 ⟨n.val / 4096, by omega⟩ p ⟨j.val / 256, by omega⟩ ⟨j.val % 64, by omega⟩)
      * val_main_v48 (F := Ideal) x0 x1 x2 (ix5 ⟨n.val / 4096, by omega⟩ ⟨j.val / 256, by omega⟩ ⟨j.val / 64 % 4, by omega⟩ ⟨n.val % 4096, by omega⟩ p) := by
  have e : idx_main_v50 (idx_main_v51 (ix2 n j))
      = ix5 ⟨n.val / 4096, by omega⟩ ⟨j.val / 256, by omega⟩ ⟨j.val % 64, by omega⟩ ⟨j.val / 64 % 4, by omega⟩ ⟨n.val % 4096, by omega⟩ := by
    have hn := n.isLt
    have hj := j.isLt
    funext a
    match a with
    | ⟨0, _⟩ => exact Fin.ext (show (n.val * 1024 + j.val) / 4194304 = n.val / 4096 by omega)
    | ⟨1, _⟩ => exact Fin.ext (show (n.val * 1024 + j.val) / 256 % 4 = j.val / 256 by omega)
    | ⟨2, _⟩ => exact Fin.ext (show (n.val * 1024 + j.val) % 64 = j.val % 64 by omega)
    | ⟨3, _⟩ => exact Fin.ext (show (n.val * 1024 + j.val) / 64 % 4 = j.val / 64 % 4 by omega)
    | ⟨4, _⟩ => exact Fin.ext (show (n.val * 1024 + j.val) / 1024 % 4096 = n.val % 4096 by omega)
  have el : ∀ (b h g : Fin 4) (d : Fin 64) (r p : Fin 4096), lidx_main_v49 (ix5 b h d g r) p = ix4 b p h d := fun b h g d r p => by
    funext a
    match a with
    | ⟨0, _⟩ => rfl
    | ⟨1, _⟩ => rfl
    | ⟨2, _⟩ => rfl
    | ⟨3, _⟩ => rfl
  have er : ∀ (b h g : Fin 4) (d : Fin 64) (r p : Fin 4096), ridx_main_v49 (ix5 b h d g r) p = ix5 b h g r p := fun b h g d r p => by
    funext a
    match a with
    | ⟨0, _⟩ => rfl
    | ⟨1, _⟩ => rfl
    | ⟨2, _⟩ => rfl
    | ⟨3, _⟩ => rfl
    | ⟨4, _⟩ => rfl
  rw [val_main_v51_apply, val_main_v50_apply, e, val_main_v49_apply]
  simp only [el, er]

theorem val_at (b h : Fin 4) (p : Fin 4096) (d : Fin 64) : val_main_v18 (F := Ideal) x3 (ix4 b p h d)
    = x3 (ix2 ⟨4096 * b.val + p.val, by omega⟩ ⟨64 * h.val + d.val, by omega⟩) := by
  pointwise [val_main_v18, val_main_v12, val_main_v11, val_main_v2]
  blk_point

theorem soft_at (b h g : Fin 4) (n p : Fin 4096) : val_main_v48 (F := Ideal) x0 x1 x2 (ix5 b h g n p)
    = Ideal.div (val_main_v39 (F := Ideal) x0 x1 x2 (ix5 b h g n p)) (val_main_v47 (F := Ideal) x0 x1 x2 (ix5 b h g n p)) := by
  rw [val_main_v48_apply]
  generalize val_main_v39 (F := Ideal) x0 x1 x2 (ix5 b h g n p) = u
  generalize val_main_v47 (F := Ideal) x0 x1 x2 (ix5 b h g n p) = w
  rfl

theorem out1 (n : Fin 16384) (j : Fin 1024) : val_main_v51 (F := Ideal) x0 x1 x2 x3 (ix2 n j)
    = seqAt (fun a => x0 (ix2 0 a)) (fun a b => x1 (ix2 a b)) (fun a b => x2 (ix2 a b)) (fun a b => x3 (ix2 a b))
        4096 (n.val / 4096 * 4096) n.val j := by
  have hn := n.isLt
  have hj := j.isLt
  rw [out_sum]
  simp only [val_at, soft_at, den_at, weight_at]
  have hM := topm x0 x1 x2 ⟨n.val / 4096, by omega⟩ ⟨j.val / 256, by omega⟩ ⟨j.val / 64 % 4, by omega⟩ ⟨n.val % 4096, by omega⟩ 0
  have hY := masked x1 x2 ⟨n.val / 4096, by omega⟩ ⟨j.val / 256, by omega⟩ ⟨j.val / 64 % 4, by omega⟩ ⟨n.val % 4096, by omega⟩
  generalize val_main_v36 (F := Ideal) x0 x1 x2 _ = M at hM ⊢
  obtain ⟨Y, hYd⟩ : ∃ Y : Fin 4096 → EReal, ∀ p, val_main_v30 (F := Ideal) x1 x2 (ix5 ⟨n.val / 4096, by omega⟩ ⟨j.val / 256, by omega⟩
    ⟨j.val / 64 % 4, by omega⟩ ⟨n.val % 4096, by omega⟩ p) = Y p := ⟨_, fun _ => rfl⟩
  simp only [hYd] at hY hM ⊢
  unfold seqAt
  refine att_of (S := 4096) (fun p => (hY p).trans ?_) hM ?_ (fun p => ?_)
  · refine if_congr (by omega) (Finset.sum_congr rfl fun d _ => congrArg₂ (· * ·) (congrArg₂ (fun a b => x1 (ix2 a b)) (Fin.ext ?_) (Fin.ext ?_))
      (congrArg₂ (fun a b => x2 (ix2 a b)) (Fin.ext ?_) (Fin.ext ?_))) rfl
    all_goals dsimp only
    all_goals try omega
  · exact congrArg (fun a => x0 (ix2 0 a)) (Fin.ext (by dsimp only; omega))
  · refine congrArg₂ (fun a b => x3 (ix2 a b)) (Fin.ext ?_) (Fin.ext ?_)
    all_goals dsimp only
    all_goals try omega

end Cert.AttnRefIdeal.Hand
end
-- ==== Proof.AttnLong.lean ====
/- The attention reference's array, over the longer sequences. -/
module

public import proofs.«01_k».proof.Proof.Gen.AttnRefIdeal.Read
public import proofs.«01_k».proof.Proof.AttnSeq
public import proofs.«01_k».proof.Proof.AttnRefB
public import Idealize.ShloMosaic.Lib.Pipeline.ValueKit

@[expose] public section

set_option maxRecDepth 16384

noncomputable section

open Idealize.ShloMosaic Idealize.ShloMosaic.TcCoe Idealize.SL.Sem

namespace Cert.AttnRefIdeal.Hand

open Cert.AttnRefIdeal Cert.AttnRefIdeal.Read Cert.Softmax Cert.AttnSeq Cert.Near

variable (x0 : (⟨S1x16, .f32⟩ : BufTy).Contents (Elt Ideal)) (x1 : (⟨S49152x1024, .bf16⟩ : BufTy).Contents (Elt Ideal))
  (x2 x3 : (⟨S49152x256, .bf16⟩ : BufTy).Contents (Elt Ideal))

theorem masked_long (b h g : Fin 4) (n p : Fin 8192) : val_main_v67 (F := Ideal) x1 x2 (ix5 b h g n p)
    = if n.val ≤ p.val + 128 ∧ p.val ≤ n.val + 128
        then ∑ d : Fin 64, x1 (ix2 ⟨16384 + (8192 * b.val + n.val), by omega⟩ ⟨64 * (4 * h.val + g.val) + d.val, by omega⟩)
          * x2 (ix2 ⟨16384 + (8192 * b.val + p.val), by omega⟩ ⟨64 * h.val + d.val, by omega⟩)
        else ⊥ := by
  pointwise [val_main_v67, val_main_call1_v1, val_main_v66, val_main_v64, val_main_v63, val_main_v61, val_main_v62, val_main_v59, val_main_v60, val_main_v56, val_main_v65, val_main_c_2, val_main_call1_v2, val_main_call1_v0, val_main_cst_3,
    val_main_v58, val_main_v57, val_main_v54, val_main_v10, val_main_v9, val_main_v1, val_main_v53, val_main_v6, val_main_v5, val_main_v0]
  rw [select_one]
  refine if_congr (near _ _ (by omega) (by omega)) (Finset.sum_congr rfl fun d _ => ?_) minf
  rw [mul_comm]
  blk_point

theorem topv_long (b h g : Fin 4) (n : Fin 8192) : val_main_v69 (F := Ideal) x1 x2 (ix4 b h g n)
    = Finset.univ.fold max (val_main_cst_4 (F := Ideal) (Shape.Idx.first Gen.h_S_)) fun p : Fin 8192 => val_main_v67 (F := Ideal) x1 x2 (ix5 b h g n p) := by
  pointwise [val_main_v69]

theorem topz_long (b h g : Fin 4) (n : Fin 8192) (e : Fin 1) : val_main_v73 (F := Ideal) x0 x1 x2 (ix5 b h g n e)
    = max (val_main_v69 (F := Ideal) x1 x2 (ix4 b h g n)) (x0 (ix2 0 ⟨4 * h.val + g.val, by omega⟩)) := by
  have ei : idx_main_v70 (ix5 b h g n e) = ix4 b h g n := by
    funext a
    match a with
    | ⟨0, _⟩ => rfl
    | ⟨1, _⟩ => rfl
    | ⟨2, _⟩ => rfl
    | ⟨3, _⟩ => rfl
  have es : val_main_v72 (F := Ideal) x0 (ix5 b h g n e) = x0 (ix2 0 ⟨4 * h.val + g.val, by omega⟩) := by
    pointwise [val_main_v72, val_main_v71, val_main_v68, val_main_v52]
    blk_point
  rw [val_main_v73_apply, val_main_v70_apply, ei, es]
  generalize val_main_v69 (F := Ideal) x1 x2 (ix4 b h g n) = u
  rfl

theorem topm_long (b h g : Fin 4) (n : Fin 8192) (e : Fin 1) : val_main_v73 (F := Ideal) x0 x1 x2 (ix5 b h g n e)
    = max (Finset.univ.fold max ⊥ fun p : Fin 8192 => val_main_v67 (F := Ideal) x1 x2 (ix5 b h g n p)) (x0 (ix2 0 ⟨4 * h.val + g.val, by omega⟩)) := by
  rw [topz_long, topv_long, show val_main_cst_4 (F := Ideal) (Shape.Idx.first Gen.h_S_) = ⊥ from minf]

theorem weight_at_long (b h g : Fin 4) (n p : Fin 8192) : val_main_v76 (F := Ideal) x0 x1 x2 (ix5 b h g n p)
    = Ideal.exp (val_main_v67 (F := Ideal) x1 x2 (ix5 b h g n p) - val_main_v73 (F := Ideal) x0 x1 x2 (ix5 b h g n 0)) := by
  have ei : idx_main_v74 (ix5 b h g n p) = ix5 b h g n 0 := by
    funext a
    match a with
    | ⟨0, _⟩ => rfl
    | ⟨1, _⟩ => rfl
    | ⟨2, _⟩ => rfl
    | ⟨3, _⟩ => rfl
    | ⟨4, _⟩ => rfl
  rw [val_main_v76_apply, val_main_v75_apply, val_main_v74_apply, ei]
  generalize val_main_v67 (F := Ideal) x1 x2 (ix5 b h g n p) = u
  generalize val_main_v73 (F := Ideal) x0 x1 x2 (ix5 b h g n 0) = w
  rfl

theorem den_at_long (b h g : Fin 4) (n p : Fin 8192) : val_main_v84 (F := Ideal) x0 x1 x2 (ix5 b h g n p)
    = ∑ k : Fin 8192, val_main_v76 (F := Ideal) x0 x1 x2 (ix5 b h g n k)
      + Ideal.exp (x0 (ix2 0 ⟨4 * h.val + g.val, by omega⟩) - val_main_v73 (F := Ideal) x0 x1 x2 (ix5 b h g n 0)) := by
  have e47 : idx_main_v84 (ix5 b h g n p) = ix5 b h g n 0 := by
    funext a
    match a with
    | ⟨0, _⟩ => rfl
    | ⟨1, _⟩ => rfl
    | ⟨2, _⟩ => rfl
    | ⟨3, _⟩ => rfl
    | ⟨4, _⟩ => rfl
  have e40 : ∀ k, idx_main_v77 (idx_main_v78 (ix5 b h g n 0)) k = ix5 b h g n k := fun k => by
    funext a
    match a with
    | ⟨0, _⟩ => rfl
    | ⟨1, _⟩ => rfl
    | ⟨2, _⟩ => rfl
    | ⟨3, _⟩ => rfl
    | ⟨4, _⟩ => rfl
  have e43 : val_main_v80 (F := Ideal) x0 (ix5 b h g n 0) = x0 (ix2 0 ⟨4 * h.val + g.val, by omega⟩) := by
    pointwise [val_main_v80, val_main_v79, val_main_v68, val_main_v52]
    blk_point
  have e0 : val_main_cst_5 (F := Ideal) (Shape.Idx.first Gen.h_S_) = (0 : EReal) := by
    pointwise [val_main_cst_5]
  rw [val_main_v84_apply, e47, val_main_v83_apply, val_main_v78_apply, val_main_v77_apply, val_main_v82_apply, val_main_v81_apply, e43, e0]
  simp only [e40]
  generalize (fun k => val_main_v76 (F := Ideal) x0 x1 x2 (ix5 b h g n k)) = u
  generalize val_main_v73 (F := Ideal) x0 x1 x2 (ix5 b h g n 0) = w
  rw [zero_add]
  rfl

theorem out_sum_long (n : Fin 32768) (j : Fin 1024) : val_main_v88 (F := Ideal) x0 x1 x2 x3 (ix2 n j)
    = ∑ p : Fin 8192, val_main_v55 (F := Ideal) x3 (ix4 ⟨n.val / 8192, by omega⟩ p ⟨j.val / 256, by omega⟩ ⟨j.val % 64, by omega⟩)
      * val_main_v85 (F := Ideal) x0 x1 x2 (ix5 ⟨n.val / 8192, by omega⟩ ⟨j.val / 256, by omega⟩ ⟨j.val / 64 % 4, by omega⟩ ⟨n.val % 8192, by omega⟩ p) := by
  have e : idx_main_v87 (idx_main_v88 (ix2 n j))
      = ix5 ⟨n.val / 8192, by omega⟩ ⟨j.val / 256, by omega⟩ ⟨j.val % 64, by omega⟩ ⟨j.val / 64 % 4, by omega⟩ ⟨n.val % 8192, by omega⟩ := by
    have hn := n.isLt
    have hj := j.isLt
    funext a
    match a with
    | ⟨0, _⟩ => exact Fin.ext (show (n.val * 1024 + j.val) / 8388608 = n.val / 8192 by omega)
    | ⟨1, _⟩ => exact Fin.ext (show (n.val * 1024 + j.val) / 256 % 4 = j.val / 256 by omega)
    | ⟨2, _⟩ => exact Fin.ext (show (n.val * 1024 + j.val) % 64 = j.val % 64 by omega)
    | ⟨3, _⟩ => exact Fin.ext (show (n.val * 1024 + j.val) / 64 % 4 = j.val / 64 % 4 by omega)
    | ⟨4, _⟩ => exact Fin.ext (show (n.val * 1024 + j.val) / 1024 % 8192 = n.val % 8192 by omega)
  have el : ∀ (b h g : Fin 4) (d : Fin 64) (r p : Fin 8192), lidx_main_v86 (ix5 b h d g r) p = ix4 b p h d := fun b h g d r p => by
    funext a
    match a with
    | ⟨0, _⟩ => rfl
    | ⟨1, _⟩ => rfl
    | ⟨2, _⟩ => rfl
    | ⟨3, _⟩ => rfl
  have er : ∀ (b h g : Fin 4) (d : Fin 64) (r p : Fin 8192), ridx_main_v86 (ix5 b h d g r) p = ix5 b h g r p := fun b h g d r p => by
    funext a
    match a with
    | ⟨0, _⟩ => rfl
    | ⟨1, _⟩ => rfl
    | ⟨2, _⟩ => rfl
    | ⟨3, _⟩ => rfl
    | ⟨4, _⟩ => rfl
  rw [val_main_v88_apply, val_main_v87_apply, e, val_main_v86_apply]
  simp only [el, er]

theorem val_at_long (b h : Fin 4) (p : Fin 8192) (d : Fin 64) : val_main_v55 (F := Ideal) x3 (ix4 b p h d)
    = x3 (ix2 ⟨16384 + (8192 * b.val + p.val), by omega⟩ ⟨64 * h.val + d.val, by omega⟩) := by
  pointwise [val_main_v55, val_main_v14, val_main_v13, val_main_v2]
  blk_point

theorem soft_at_long (b h g : Fin 4) (n p : Fin 8192) : val_main_v85 (F := Ideal) x0 x1 x2 (ix5 b h g n p)
    = Ideal.div (val_main_v76 (F := Ideal) x0 x1 x2 (ix5 b h g n p)) (val_main_v84 (F := Ideal) x0 x1 x2 (ix5 b h g n p)) := by
  rw [val_main_v85_apply]
  generalize val_main_v76 (F := Ideal) x0 x1 x2 (ix5 b h g n p) = u
  generalize val_main_v84 (F := Ideal) x0 x1 x2 (ix5 b h g n p) = w
  rfl

theorem out2 (n : Fin 32768) (j : Fin 1024) : val_main_v88 (F := Ideal) x0 x1 x2 x3 (ix2 n j)
    = seqAt (fun a => x0 (ix2 0 a)) (fun a b => x1 (ix2 a b)) (fun a b => x2 (ix2 a b)) (fun a b => x3 (ix2 a b))
        8192 (16384 + n.val / 8192 * 8192) (16384 + n.val) j := by
  have hn := n.isLt
  have hj := j.isLt
  rw [out_sum_long]
  simp only [val_at_long, soft_at_long, den_at_long, weight_at_long]
  have hM := topm_long x0 x1 x2 ⟨n.val / 8192, by omega⟩ ⟨j.val / 256, by omega⟩ ⟨j.val / 64 % 4, by omega⟩ ⟨n.val % 8192, by omega⟩ 0
  have hY := masked_long x1 x2 ⟨n.val / 8192, by omega⟩ ⟨j.val / 256, by omega⟩ ⟨j.val / 64 % 4, by omega⟩ ⟨n.val % 8192, by omega⟩
  generalize val_main_v73 (F := Ideal) x0 x1 x2 _ = M at hM ⊢
  obtain ⟨Y, hYd⟩ : ∃ Y : Fin 8192 → EReal, ∀ p, val_main_v67 (F := Ideal) x1 x2 (ix5 ⟨n.val / 8192, by omega⟩ ⟨j.val / 256, by omega⟩
    ⟨j.val / 64 % 4, by omega⟩ ⟨n.val % 8192, by omega⟩ p) = Y p := ⟨_, fun _ => rfl⟩
  simp only [hYd] at hY hM ⊢
  unfold seqAt
  refine att_of (S := 8192) (fun p => (hY p).trans ?_) hM ?_ (fun p => ?_)
  · refine if_congr (by omega) (Finset.sum_congr rfl fun d _ => congrArg₂ (· * ·) (congrArg₂ (fun a b => x1 (ix2 a b)) (Fin.ext ?_) (Fin.ext ?_))
      (congrArg₂ (fun a b => x2 (ix2 a b)) (Fin.ext ?_) (Fin.ext ?_))) rfl
    all_goals dsimp only
    all_goals try omega
  · exact congrArg (fun a => x0 (ix2 0 a)) (Fin.ext (by dsimp only; omega))
  · refine congrArg₂ (fun a b => x3 (ix2 a b)) (Fin.ext ?_) (Fin.ext ?_)
    all_goals dsimp only
    all_goals try omega

end Cert.AttnRefIdeal.Hand
end
-- ==== Proof.AttnWhole.lean ====
/- The attention reference's array, as a whole. -/
module

public import proofs.«01_k».proof.Proof.Gen.AttnRefIdeal.Read
public import proofs.«01_k».proof.Proof.AttnSeq
public import proofs.«01_k».proof.Proof.AttnLong
public import Idealize.ShloMosaic.Lib.Pipeline.ValueKit

@[expose] public section

set_option maxRecDepth 16384

noncomputable section

open Idealize.ShloMosaic Idealize.ShloMosaic.TcCoe Idealize.SL.Sem

namespace Cert.AttnRefIdeal.Hand

open Cert.AttnRefIdeal Cert.AttnRefIdeal.Read Cert.Softmax Cert.AttnSeq Cert.Near

variable (x0 : (⟨S1x16, .f32⟩ : BufTy).Contents (Elt Ideal)) (x1 : (⟨S49152x1024, .bf16⟩ : BufTy).Contents (Elt Ideal))
  (x2 x3 : (⟨S49152x256, .bf16⟩ : BufTy).Contents (Elt Ideal))

theorem ref_eq : val_main_v90 (F := Ideal) x0 x1 x2 x3
    = fun i : S49152x1024.Idx => whole (fun a => x0 (ix2 0 a)) (fun a b => x1 (ix2 a b)) (fun a b => x2 (ix2 a b)) (fun a b => x3 (ix2 a b)) (i 0) (i 1) := by
  funext i
  have h1 := out1 x0 x1 x2 x3
  have h2 := out2 x0 x1 x2 x3
  unfold val_main_v90 val_main_v89 whole
  generalize val_main_v51 (F := Ideal) x0 x1 x2 x3 = y1 at h1 ⊢
  generalize val_main_v88 (F := Ideal) x0 x1 x2 x3 = y2 at h2 ⊢
  obtain ⟨n, j, rfl⟩ : ∃ n j, i = ix2 n j := ⟨i 0, i 1, eq_ix2 i⟩
  pointwise
  by_cases hn : n.val < 16384
  · rw [dif_pos hn, if_pos hn, h1]
  · rw [dif_neg hn, if_neg hn, h2]
    dsimp only
    rw [show 16384 + (n.val - 16384) = n.val by omega]

end Cert.AttnRefIdeal.Hand
end
-- ==== Proof.AttnClaim.lean ====
/- The claims about the attention call. -/
module

public import proofs.«01_k».proof.Defs
public import proofs.«01_k».proof.Proof.AttnFinal
public import proofs.«01_k».proof.Proof.AttnWhole
public import proofs.«01_k».proof.Proof.Gen.Attn.Frame
public import proofs.«01_k».proof.Proof.Gen.AttnRefIdeal.Run
public import Idealize.ShloMosaic.Lib.Claim

@[expose] public section

set_option maxRecDepth 16384

noncomputable section

open Idealize.ShloMosaic Idealize.ShloMosaic.TcCoe Idealize.SL.Sem

namespace Cert.AttnClaim

/-- An entry whose absolute value is below infinity is neither infinity. -/
theorem finite_of (x : EReal) (h : BitVec.ofBool (decide (max x (-x) < Ideal.ofBits FTy.f32 2139095040#32)) = 1#1) : x ≠ ⊥ ∧ x ≠ ⊤ := by
  have inf : Ideal.ofBits FTy.f32 2139095040#32 = (⊤ : EReal) := by simp [Ideal.ofBits, Ideal.ieee]
  rw [inf] at h
  have bits : ∀ a : Bool, BitVec.ofBool a = 1#1 → a = true := by decide
  have h2 := of_decide_eq_true (bits _ h)
  rw [max_lt_iff] at h2
  refine ⟨fun e => ?_, h2.1.ne⟩
  rw [e, EReal.neg_bot] at h2
  exact lt_irrefl _ h2.2

variable [hPre : Cert.Pre_attn_finite.Facts] (m : (ℓ : Loc Cert.AttnIdeal.nD Cert.AttnIdeal.τ Cert.AttnIdeal.sig) → Buf (Elt Ideal) ℓ)
    (h : Cert.Pre_AttnIdeal_attn_finite m) (c : Dev Cert.AttnIdeal.nD)

include h

theorem sinks (a : Fin 16) : Cert.AttnIdeal.Hand.sinks m c a ≠ ⊥ ∧ Cert.AttnIdeal.Hand.sinks m c a ≠ ⊤ := by
  have h1 := congrFun (h c).1 (ix2 0 a)
  unfold Cert.Pre_attn_finite.fn at h1
  pointwise at h1
  exact finite_of _ h1

theorem queries (a : Fin 49152) (b : Fin 1024) : Cert.AttnIdeal.Hand.queries m c a b ≠ ⊥ ∧ Cert.AttnIdeal.Hand.queries m c a b ≠ ⊤ := by
  have h1 := congrFun (h c).2.1 (ix2 a b)
  unfold Cert.Pre_attn_finite.fn at h1
  pointwise at h1
  exact finite_of _ h1

theorem keys (a : Fin 49152) (b : Fin 256) : Cert.AttnIdeal.Hand.keys m c a b ≠ ⊥ ∧ Cert.AttnIdeal.Hand.keys m c a b ≠ ⊤ := by
  have h1 := congrFun (h c).2.2 (ix2 a b)
  unfold Cert.Pre_attn_finite.fn at h1
  pointwise at h1
  exact finite_of _ h1

omit h

theorem algebraic : Cert.algebraic_AttnIdeal_AttnRefIdeal_pre_attn_finite := by
  pair_intro
  · run_from Cert.AttnIdeal.Gen.run_main m g
  · run_from Cert.AttnRefIdeal.Value.run (F := Ideal) m' g'
    obtain ⟨a0, a1, a2, a3⟩ := hagree c
    refine (Cert.AttnRefIdeal.Read.val_main_v90_eq m' c).trans ?_
    rw [a0, a1, a2, a3]
    exact (Cert.AttnRefIdeal.Hand.ref_eq _ _ _ _).trans (Cert.AttnIdeal.Hand.final m c (sinks m hpre c) (queries m hpre c) (keys m hpre c)).symm

end Cert.AttnClaim
end
-- ==== Proof.MoeStep.lean ====
/- What one point of the experts' grid adds to the accumulator, read at an index. -/
module

public import proofs.«01_k».proof.Proof.Gen.MoeIdeal.Skeleton
public import proofs.«01_k».proof.Proof.Sums

@[expose] public section

set_option maxRecDepth 16384

noncomputable section

open Idealize.ShloMosaic Idealize.ShloMosaic.TcCoe Idealize.SL.Sem

namespace Cert.MoeIdeal.Hand

open Cert.MoeIdeal Cert.MoeIdeal.Gen

/-- The accumulator starts at zero. -/
theorem zero_at (j : S1024x1024.Idx) : k0_pay3 (F := Ideal) j = 0 := by pointwise [k0_pay3]

/-- The last point adds the accumulator to the residual stream. -/
theorem last_at (x acc : Vec Ideal S1024x1024 .f32) (j : S1024x1024.Idx) :
    k0_pay2 (F := Ideal) x acc j = x j + acc j := by pointwise [k0_pay2]

/-- A tile's part of an expert's output: the gated activation of 512 of the expert's lanes, weighted by the row's
    weight of that expert, times the down projection. -/
theorem step_at (i : grid0.Coords) (ga : Vec Ideal S1024x128 .f32) (h : Vec Ideal S1024x1024 .bf16)
    (wg wu : Vec Ideal S1x1024x512 .bf16) (acc : Vec Ideal S1024x1024 .f32) (wd : Vec Ideal S1x512x1024 .bf16)
    (e : Fin 128) (he : (i 1).val = e.val) (r : Fin 1024) (d : Fin 1024) :
    k0_pay1 (F := Ideal) (k0_pay4 i ga h wg wu) acc wd (ix2 r d) = acc (ix2 r d) + ∑ k : Fin 512,
      ga (ix2 r e) * (((∑ l : Fin 1024, h (ix2 r l) * wg (ix3 0 l k))
          * Ideal.div 1 (1 + Ideal.exp (- ∑ l : Fin 1024, h (ix2 r l) * wg (ix3 0 l k)))
          * ∑ l : Fin 1024, h (ix2 r l) * wu (ix3 0 l k)) * wd (ix3 0 k d)) := by
  pointwise [k0_pay1, k0_pay4]
  refine congrArg (_ + ·) (Finset.sum_congr rfl fun k _ => ?_)
  rw [Cert.Sums.sum_lane 128 (by norm_num) (fun l => ga (ix2 r l)) e _ (by rw [he]), Cert.Sums.zero_sub']
  ac_rfl

end Cert.MoeIdeal.Hand
end
-- ==== Proof.MoeValue.lean ====
/- The experts' kernel's result array, read at a point that writes a block back. -/
module

public import proofs.«01_k».proof.Proof.Gen.MoeIdeal.Value
public import proofs.«01_k».proof.Proof.MoeStep
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MoeIdeal.Hand

open Cert.MoeIdeal Cert.MoeIdeal.Gen

variable (m : (ℓ : Loc nD τ sig) → Buf (Elt Ideal) ℓ)

/-- The windows' block indices and the expert's coordinate, by the point's number. -/
theorem idx : ∀ t : Fin cfg0.N,
    win0_0.index t = ![t.val / 56, 0] ∧ win0_1.index t = ![t.val / 56, 0] ∧ win0_2.index t = ![t.val / 56, 0]
    ∧ win0_3.index t = ![t.val % 56 / 7, 0, t.val % 7] ∧ win0_4.index t = ![t.val % 56 / 7, 0, t.val % 7]
    ∧ win0_5.index t = ![t.val % 56 / 7, t.val % 7, 0] ∧ win0_6.index t = ![t.val / 56, 0]
    ∧ (grid0.coords t 1).val = t.val % 56 / 7 :=
  (by decide +kernel : ∀ t : Fin grid0.N, _)

/-- What a point adds at row `r`, column `d` of its block. -/
def part (c : Dev nD) (t : Fin cfg0.N) (j : S1024x1024.Idx) : EReal :=
  ∑ k : Fin 512,
      (show FVec Ideal S1024x128 .f32 from iblk m c 2 t) (ix2 (j 0) ⟨t.val % 56 / 7, by omega⟩)
      * (((∑ l : Fin 1024, (show FVec Ideal S1024x1024 .bf16 from iblk m c 1 t) (ix2 (j 0) l)
              * (show FVec Ideal S1x1024x512 .bf16 from iblk m c 3 t) (ix3 0 l k))
          * Ideal.div 1 (1 + Ideal.exp (- ∑ l : Fin 1024, (show FVec Ideal S1024x1024 .bf16 from iblk m c 1 t) (ix2 (j 0) l)
              * (show FVec Ideal S1x1024x512 .bf16 from iblk m c 3 t) (ix3 0 l k)))
          * ∑ l : Fin 1024, (show FVec Ideal S1024x1024 .bf16 from iblk m c 1 t) (ix2 (j 0) l)
              * (show FVec Ideal S1x1024x512 .bf16 from iblk m c 4 t) (ix3 0 l k))
        * (show FVec Ideal S1x512x1024 .bf16 from iblk m c 5 t) (ix3 0 k (j 1)))

theorem pay_part (c : Dev nD) (t : Fin cfg0.N) (acc : Vec Ideal S1024x1024 .f32) (j : S1024x1024.Idx) :
    k0_pay1 (F := Ideal) (k0_pay4 (grid0.coords t) (iblk m c 2 t) (iblk m c 1 t) (iblk m c 3 t) (iblk m c 4 t)) acc
      (iblk m c 5 t) j = acc j + part m c t j := by
  rw [eq_ix2 j]
  exact step_at (grid0.coords t) (iblk m c 2 t) (iblk m c 1 t) (iblk m c 3 t) (iblk m c 4 t) acc (iblk m c 5 t)
    ⟨t.val % 56 / 7, by omega⟩ (idx t).2.2.2.2.2.2.2 (j 0) (j 1)

theorem scratch_reset (c : Dev nD) (t : Fin cfg0.N) (h : t.val % 56 = 0) (j : S1024x1024.Idx) :
    (outsAt0 m c t.val t.isLt).2 j = 0 + part m c t j := by
  rw [outsAt0_A m c t h (by omega)]
  frame_out
  rw [pay_part, zero_at]

theorem scratch_step (c : Dev nD) (t : Fin cfg0.N) (h : ¬t.val % 56 = 0) (j : S1024x1024.Idx) :
    (outsAt0 m c t.val t.isLt).2 j
      = (outsAt0 m c (t.val - 1) (Nat.lt_of_le_of_lt (Nat.sub_le _ _) t.isLt)).2 j + part m c t j := by
  by_cases h1 : t.val % 56 = 55
  · rw [outsAt0_C m c t h h1]
    frame_out
    rw [pay_part]
    exact congrArg (· + _) (congrFun ((Memref.isWhole_whole cc0_scratch0).read_unread _) j)
  · rw [outsAt0_B m c t h h1]
    frame_out
    rw [pay_part]
    exact congrArg (· + _) (congrFun ((Memref.isWhole_whole cc0_scratch0).read_unread _) j)

theorem out_last (c : Dev nD) (t : Fin cfg0.N) (h : t.val % 56 = 55) (j : S1024x1024.Idx) :
    (outsAt0 m c t.val t.isLt).1 j
      = (show FVec Ideal S1024x1024 .f32 from iblk m c 0 t) j + (outsAt0 m c t.val t.isLt).2 j := by
  rw [outsAt0_C m c t (by omega) h]
  frame_out
  rw [last_at]

end Cert.MoeIdeal.Hand
end
-- ==== Proof.MoeRef.lean ====
/- The experts' reference read at an index. -/
module

public import proofs.«01_k».proof.Proof.Gen.MoeRefIdeal.Read
public import proofs.«01_k».proof.Proof.Sums

@[expose] public section

set_option maxRecDepth 16384

noncomputable section

open Idealize.ShloMosaic Idealize.ShloMosaic.TcCoe Idealize.SL.Sem

namespace Cert.MoeRefIdeal.Hand

open Cert.MoeRefIdeal Cert.MoeRefIdeal.Gen Cert.MoeRefIdeal.Read

/-- The residual stream plus every expert's output, weighted: `gate · (silu(t·w_gate) · (t·w_up))·w_down`. -/
def moe (x0 : Vec Ideal S49152x1024 .f32) (x1 : Vec Ideal S49152x1024 .bf16) (x2 : Vec Ideal S49152x128 .f32)
    (x3 x4 : Vec Ideal S1x8x1024x3584 .f32) (x5 : Vec Ideal S1x8x3584x1024 .f32) : Vec Ideal S49152x1024 .f32 := fun i =>
  x0 (ix2 (i 0) (i 1)) + ∑ e : Fin 8, ∑ f : Fin 3584, x2 (ix2 (i 0) ⟨e.val, by omega⟩)
    * (((∑ l : Fin 1024, x1 (ix2 (i 0) l) * x3 (ix4 0 e l f))
          * Ideal.div 1 (1 + Ideal.exp (-∑ l : Fin 1024, x1 (ix2 (i 0) l) * x3 (ix4 0 e l f)))
          * ∑ l : Fin 1024, x1 (ix2 (i 0) l) * x4 (ix4 0 e l f)) * x5 (ix4 0 e f (i 1)))

/-- The reference is that sum, once the weights are not negative and finite. -/
theorem ref_eq (x0 : Vec Ideal S49152x1024 .f32) (x1 : Vec Ideal S49152x1024 .bf16) (x2 : Vec Ideal S49152x128 .f32)
    (x3 x4 : Vec Ideal S1x8x1024x3584 .f32) (x5 : Vec Ideal S1x8x3584x1024 .f32)
    (hg : ∀ i, (0 : EReal) ≤ x2 i ∧ x2 i ≠ (⊤ : EReal)) :
    val_main_v17 (F := Ideal) x0 x1 x2 x3 x4 x5 = moe x0 x1 x2 x3 x4 x5 := by
  funext i
  idx_vars i
  unfold moe
  pointwise [val_main_v17, val_main_v16, val_main_v15, val_main_v14, val_main_v13, val_main_v12, val_main_v11, val_main_v10,
    val_main_v9, val_main_v8, val_main_v7, val_main_v6, val_main_v5, val_main_v4, val_main_v3, val_main_v2, val_main_v1,
    val_main_v0, val_main_cst, val_main_call0_v0, val_main_call0_v1, val_main_call0_v2, val_main_call0_v3, val_main_call0_v4,
    val_main_call0_v5, val_main_call0_cst, val_main_call0_cst_0]
  refine congrArg (_ + ·) (Finset.sum_congr rfl fun e _ => ?_)
  rw [Cert.Sums.mul_sum _ _ (hg _).1 (hg _).2]
  refine Finset.sum_congr rfl fun f _ => ?_
  simp only [mul_comm (x3 _) (x1 _), mul_comm (x4 _) (x1 _)]

end Cert.MoeRefIdeal.Hand
end
-- ==== Proof.MoeFinal.lean ====
/- The experts' kernel's result array is the reference's sum. -/
module

public import proofs.«01_k».proof.Proof.MoeValue
public import proofs.«01_k».proof.Proof.MoeRef

@[expose] public section

set_option maxRecDepth 16384

noncomputable section

open Idealize.ShloMosaic Idealize.ShloMosaic.TcCoe Idealize.SL.Sem
open Idealize.ShloMosaic.Pipeline (Dat)

namespace Cert.MoeIdeal.Hand

open Cert.MoeIdeal Cert.MoeIdeal.Gen

variable (m : (ℓ : Loc nD τ sig) → Buf (Elt Ideal) ℓ)

theorem final (c : Dev nD) : (dats m 0 c).arrAt 6 cfg0.N
    = Cert.MoeRefIdeal.Hand.moe (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  refine (dats m 0 c).arrAt_eq_of_covers 6 _ (by decide +kernel) fun t hf y => ?_
  blk_simp
  have h55 := (flush0_6 t).mp hf
  rw [after0_6, out_last m c t h55, Pipeline.eq_sum_fin_of_reset_step_apply_of_flush (fun n h => (outsAt0 m c n h).2) 56
    (fun _ => 0) (part m c) (scratch_reset m c) (scratch_step m c) t h55 y, zero_add]
  unfold Cert.MoeRefIdeal.Hand.moe part
  dsimp only
  refine Ideal.add_congr ?_ (Fin.sum_points_lanes_congr 7 fun s k ha hl => ?_)
  · blk_ext [iblk, V, idx t]
  · blk_point [iblk, V, idx t, idx ⟨_, Pipeline.run_point_lt_of_flush t h55 s⟩]

end Cert.MoeIdeal.Hand
end
-- ==== Proof.MoeClaim.lean ====
/- The claims about the experts' call. -/
module

public import proofs.«01_k».proof.Defs
public import proofs.«01_k».proof.Proof.MoeFinal
public import proofs.«01_k».proof.Proof.Gen.Moe.Frame
public import proofs.«01_k».proof.Proof.Gen.MoeRefIdeal.Run
public import Idealize.ShloMosaic.Lib.Claim

@[expose] public section

set_option maxRecDepth 16384

noncomputable section

open Idealize.ShloMosaic Idealize.ShloMosaic.TcCoe Idealize.SL.Sem

namespace Cert.MoeClaim

/-- The precondition at an entry: the expert's weight is not negative and not infinite. -/
theorem weights [Cert.Pre_gate_weights.Facts] (m : (ℓ : Loc Cert.MoeIdeal.nD Cert.MoeIdeal.τ Cert.MoeIdeal.sig) → Buf (Elt Ideal) ℓ)
    (h : Cert.Pre_MoeIdeal_gate_weights m) (c : Dev Cert.MoeIdeal.nD) (i : Cert.MoeIdeal.S49152x128.Idx) :
    (0 : EReal) ≤ (show FVec Ideal Cert.MoeIdeal.S49152x128 .f32 from m ((c.tc : Thread Cert.MoeIdeal.nD Cert.MoeIdeal.τ).loc Cert.MoeIdeal.main_arg2)) i
    ∧ (show FVec Ideal Cert.MoeIdeal.S49152x128 .f32 from m ((c.tc : Thread Cert.MoeIdeal.nD Cert.MoeIdeal.τ).loc Cert.MoeIdeal.main_arg2)) i ≠ (⊤ : EReal) := by
  have h1 := congrFun (h c) i
  unfold Cert.Pre_gate_weights.fn at h1
  pointwise at h1
  have inf : Ideal.ofBits FTy.f32 2139095040#32 = (⊤ : EReal) := by simp [Ideal.ofBits, Ideal.ieee]
  rw [inf] at h1
  have bits : ∀ a b : Bool, IntOp.andi (BitVec.ofBool a) (BitVec.ofBool b) = 1#1 → a = true ∧ b = true := by decide
  have h2 := bits _ _ h1
  exact ⟨of_decide_eq_true h2.1, (of_decide_eq_true h2.2).ne⟩

theorem algebraic [hPre : Cert.Pre_gate_weights.Facts] : Cert.algebraic_MoeIdeal_MoeRefIdeal_pre_gate_weights := by
  pair_intro
  · run_from Cert.MoeIdeal.Gen.run_main m g
  · run_from Cert.MoeRefIdeal.Value.run (F := Ideal) m' g'
    · exact (Cert.MoeRefIdeal.Read.val_main_v17_eq _ _ _ _ _ _).trans ((Cert.MoeRefIdeal.Hand.ref_eq _ _ _ _ _ _ (weights m hpre c)).trans (Cert.MoeIdeal.Hand.final m c).symm)

end Cert.MoeClaim
end
-- ==== Proof.Norm.lean ====
/- The root-mean-square norm of a row of 1024 entries. -/
module

public import Idealize.ShloMosaic.Lib.Pointwise

@[expose] public section

noncomputable section

open Idealize.ShloMosaic

namespace Cert.Norm

/-- Entry `d` of a row, over the root of the mean of the row's squares, times its gain. The two words are 1024 and 10⁻⁶. -/
def rms (row : Fin 1024 → EReal) (gain : EReal) (d : Fin 1024) : EReal :=
  row d * Ideal.rsqrt (Ideal.div (∑ l, row l * row l) (Ideal.ofBits FTy.f32 1149239296#32)
    + Ideal.ofBits FTy.f32 897988541#32) * gain

end Cert.Norm
end
-- ==== Proof.FfnStep.lean ====
/- What one point of the dense feed-forward grid computes, read at an index. -/
module

public import proofs.«01_k».proof.Proof.Gen.FfnIdeal.Skeleton
public import proofs.«01_k».proof.Proof.Sums
public import proofs.«01_k».proof.Proof.Norm

@[expose] public section

set_option maxRecDepth 16384

noncomputable section

open Idealize.ShloMosaic Idealize.ShloMosaic.TcCoe Idealize.SL.Sem

namespace Cert.FfnIdeal.Hand

open Cert.FfnIdeal Cert.FfnIdeal.Gen

/-- The accumulator starts at zero. -/
theorem zero_at (j : S1024x1024.Idx) : k0_pay2 (F := Ideal) j = 0 := by pointwise [k0_pay2]

/-- The last point adds the accumulator to the residual stream. -/
theorem last_at (x acc : Vec Ideal S1024x1024 .f32) (j : S1024x1024.Idx) :
    k0_pay4 (F := Ideal) x acc j = x j + acc j := by pointwise [k0_pay4]

/-- The first point of a block of rows norms them. -/
theorem norm_at (x : Vec Ideal S1024x1024 .f32) (g : Vec Ideal S1x1024 .f32) (r d : Fin 1024) :
    k0_pay1 (F := Ideal) x g (ix2 r d) = Cert.Norm.rms (fun l => x (ix2 r l)) (g (ix2 0 d)) d := by
  pointwise [k0_pay1, Cert.Norm.rms]

/-- A tile's part of the output. -/
theorem step_at (h : Vec Ideal S1024x1024 .bf16)
    (wg wu : Vec Ideal S1024x512 .bf16) (acc : Vec Ideal S1024x1024 .f32) (wd : Vec Ideal S512x1024 .bf16)
    (r : Fin 1024) (d : Fin 1024) :
    k0_pay3 (F := Ideal) h wg wu acc wd (ix2 r d) = acc (ix2 r d) + ∑ k : Fin 512,
      ((∑ l : Fin 1024, h (ix2 r l) * wg (ix2 l k))
          * Ideal.div 1 (1 + Ideal.exp (- ∑ l : Fin 1024, h (ix2 r l) * wg (ix2 l k)))
          * ∑ l : Fin 1024, h (ix2 r l) * wu (ix2 l k)) * wd (ix2 k d) := by
  pointwise [k0_pay3]
  simp only [Cert.Sums.zero_sub']

end Cert.FfnIdeal.Hand
end
-- ==== Proof.FfnValue.lean ====
/- The dense feed-forward kernel's scratch arrays and result block after each point. -/
module

public import proofs.«01_k».proof.Proof.Gen.FfnIdeal.Value
public import proofs.«01_k».proof.Proof.FfnStep
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FfnIdeal.Hand

open Cert.FfnIdeal Cert.FfnIdeal.Gen

variable (m : (ℓ : Loc nD τ sig) → Buf (Elt Ideal) ℓ)

/-- The windows' block indices, by the point's number. -/
theorem idx : ∀ t : Fin cfg0.N,
    win0_0.index t = ![t.val / 7, 0] ∧ win0_1.index t = ![0, 0] ∧ win0_2.index t = ![0, t.val % 7]
    ∧ win0_3.index t = ![0, t.val % 7] ∧ win0_4.index t = ![t.val % 7, 0] ∧ win0_5.index t = ![t.val / 7, 0] :=
  (by decide +kernel : ∀ t : Fin grid0.N, _)

theorem points (t : Fin cfg0.N) : t.val < 336 := t.isLt

/-- Row `r` of block `b`, normed. -/
def row (c : Dev nD) (b : ℕ) (hb : b < 48) (r d : Fin 1024) : EReal :=
  Cert.Norm.rms (fun l => (show FVec Ideal S49152x1024 .f32 from m ((c : Thread nD τ).loc main_arg0))
      (ix2 ⟨b * 1024 + r.val, by omega⟩ l))
    ((show FVec Ideal S2x1024 .f32 from m ((c : Thread nD τ).loc main_arg1)) (ix2 0 d)) d

theorem norm_row (c : Dev nD) (t : Fin cfg0.N) (r d : Fin 1024) :
    k0_pay1 (F := Ideal) (iblk m c 0 t) (iblk m c 1 t) (ix2 r d)
      = row m c (t.val / 7) (by have := points t; omega) r d := by
  refine (norm_at (iblk m c 0 t) (iblk m c 1 t) r d).trans ?_
  unfold row
  congr 1
  · funext l
    blk_ext [iblk, V, idx t]
  · blk_point [iblk, V, idx t]

/-- The first scratch array holds the block's rows, normed, from the block's first point to its last. -/
theorem held (c : Dev nD) : ∀ (n : ℕ) (hn : n < cfg0.N) (r d : Fin 1024),
    (outsAt0 m c n hn).2.1 (ix2 r d) = row m c (n / 7) (by have := points ⟨n, hn⟩; simp only at this; omega) r d := by
  intro n
  induction n using Nat.strong_induction_on with
  | _ n ih =>
    intro hn r d
    by_cases h : n % 7 = 0
    · rw [outsAt0_A m c ⟨n, hn⟩ h (by simp only; omega)]
      frame_out
      exact norm_row m c ⟨n, hn⟩ r d
    · have hs : (outsAt0 m c n hn).2.1 = (outsAt0 m c (n - 1) (Nat.lt_of_le_of_lt (Nat.sub_le _ _) hn)).2.1 := by
        by_cases h1 : n % 7 = 6
        · rw [outsAt0_C m c ⟨n, hn⟩ h h1]; rfl
        · rw [outsAt0_B m c ⟨n, hn⟩ h h1]; rfl
      rw [hs, ih (n - 1) (by omega)]
      have : (n - 1) / 7 = n / 7 := by omega
      simp only [this]

/-- What a point adds at row `r`, column `d` of its block. -/
def part (c : Dev nD) (t : Fin cfg0.N) (j : S1024x1024.Idx) : EReal :=
  ∑ k : Fin 512,
      ((∑ l : Fin 1024, row m c (t.val / 7) (by have := points t; omega) (j 0) l
              * (show FVec Ideal S1024x512 .bf16 from iblk m c 2 t) (ix2 l k))
          * Ideal.div 1 (1 + Ideal.exp (- ∑ l : Fin 1024, row m c (t.val / 7) (by have := points t; omega) (j 0) l
              * (show FVec Ideal S1024x512 .bf16 from iblk m c 2 t) (ix2 l k)))
          * ∑ l : Fin 1024, row m c (t.val / 7) (by have := points t; omega) (j 0) l
              * (show FVec Ideal S1024x512 .bf16 from iblk m c 3 t) (ix2 l k))
        * (show FVec Ideal S512x1024 .bf16 from iblk m c 4 t) (ix2 k (j 1))

theorem pay_part (c : Dev nD) (t : Fin cfg0.N) (h : Vec Ideal S1024x1024 .bf16) (acc : Vec Ideal S1024x1024 .f32)
    (hh : ∀ r d, h (ix2 r d) = row m c (t.val / 7) (by have := points t; omega) r d) (j : S1024x1024.Idx) :
    k0_pay3 (F := Ideal) h (iblk m c 2 t) (iblk m c 3 t) acc (iblk m c 4 t) j = acc j + part m c t j := by
  have key : ∀ r d : Fin 1024, k0_pay3 (F := Ideal) h (iblk m c 2 t) (iblk m c 3 t) acc (iblk m c 4 t) (ix2 r d)
      = acc (ix2 r d) + part m c t (ix2 r d) := fun r d => by
    refine (step_at h (iblk m c 2 t) (iblk m c 3 t) acc (iblk m c 4 t) r d).trans ?_
    simp only [hh]
    rfl
  rw [eq_ix2 j]
  exact key (j 0) (j 1)

theorem scratch_reset (c : Dev nD) (t : Fin cfg0.N) (h : t.val % 7 = 0) (j : S1024x1024.Idx) :
    (outsAt0 m c t.val t.isLt).2.2 j = 0 + part m c t j := by
  rw [outsAt0_A m c t h (by omega)]
  frame_out
  rw [pay_part, zero_at]
  exact fun r d => norm_row m c t r d

theorem scratch_step (c : Dev nD) (t : Fin cfg0.N) (h : ¬t.val % 7 = 0) (j : S1024x1024.Idx) :
    (outsAt0 m c t.val t.isLt).2.2 j
      = (outsAt0 m c (t.val - 1) (Nat.lt_of_le_of_lt (Nat.sub_le _ _) t.isLt)).2.2 j + part m c t j := by
  have hr : (t.val - 1) / 7 = t.val / 7 := by omega
  have hp := held m c (t.val - 1) (Nat.lt_of_le_of_lt (Nat.sub_le _ _) t.isLt)
  simp only [hr] at hp
  by_cases h1 : t.val % 7 = 6
  · rw [outsAt0_C m c t h h1]
    frame_out
    exact (pay_part m c t _ _ (fun r d => (congrFun ((Memref.isWhole_whole cc0_scratch0).read_unread _) _).trans (hp r d)) j).trans
      (congrArg (· + _) (congrFun ((Memref.isWhole_whole cc0_scratch1).read_unread _) j))
  · rw [outsAt0_B m c t h h1]
    frame_out
    exact (pay_part m c t _ _ (fun r d => (congrFun ((Memref.isWhole_whole cc0_scratch0).read_unread _) _).trans (hp r d)) j).trans
      (congrArg (· + _) (congrFun ((Memref.isWhole_whole cc0_scratch1).read_unread _) j))

theorem out_last (c : Dev nD) (t : Fin cfg0.N) (h : t.val % 7 = 6) (j : S1024x1024.Idx) :
    (outsAt0 m c t.val t.isLt).1 j
      = (show FVec Ideal S1024x1024 .f32 from iblk m c 0 t) j + (outsAt0 m c t.val t.isLt).2.2 j := by
  rw [outsAt0_C m c t (by omega) h]
  frame_out
  rw [last_at]

end Cert.FfnIdeal.Hand
end
-- ==== Proof.FfnRef.lean ====
/- The dense feed-forward reference read at an index. -/
module

public import proofs.«01_k».proof.Proof.Gen.FfnRefIdeal.Read
public import proofs.«01_k».proof.Proof.Norm

@[expose] public section

set_option maxRecDepth 16384

noncomputable section

open Idealize.ShloMosaic Idealize.ShloMosaic.TcCoe Idealize.SL.Sem

namespace Cert.FfnRefIdeal.Hand

open Cert.FfnRefIdeal Cert.FfnRefIdeal.Gen Cert.FfnRefIdeal.Read

/-- The normed rows. -/
theorem norm_at (x0 : Vec Ideal S49152x1024 .f32) (x1 : Vec Ideal S2x1024 .f32) (r : Fin 49152) (d : Fin 1024) :
    val_main_v14 (F := Ideal) x0 x1 (ix2 r d) = Cert.Norm.rms (fun l => x0 (ix2 r l)) (x1 (ix2 0 d)) d := by
  pointwise [val_main_v14, val_main_v13, val_main_v12, val_main_v11, val_main_v10,
    val_main_v9, val_main_v8, val_main_v7, val_main_v6, val_main_v5, val_main_v4, val_main_v3, val_main_v2, val_main_v1,
    val_main_v0, val_main_cst, val_main_cst_0, val_main_cst_1, Cert.Norm.rms]

/-- The residual stream plus `(silu(h·w_gate) · (h·w_up))·w_down` of its normed rows `h`. -/
def ffn (x0 : Vec Ideal S49152x1024 .f32) (x1 : Vec Ideal S2x1024 .f32)
    (x2 x3 : Vec Ideal S1x1024x3584 .f32) (x4 : Vec Ideal S1x3584x1024 .f32) : Vec Ideal S49152x1024 .f32 := fun i =>
  x0 (ix2 (i 0) (i 1)) + ∑ f : Fin 3584,
    ((∑ l : Fin 1024, Cert.Norm.rms (fun l => x0 (ix2 (i 0) l)) (x1 (ix2 0 l)) l * x2 (ix3 0 l f))
      * Ideal.div 1 (1 + Ideal.exp (-∑ l : Fin 1024, Cert.Norm.rms (fun l => x0 (ix2 (i 0) l)) (x1 (ix2 0 l)) l * x2 (ix3 0 l f)))
      * ∑ l : Fin 1024, Cert.Norm.rms (fun l => x0 (ix2 (i 0) l)) (x1 (ix2 0 l)) l * x3 (ix3 0 l f)) * x4 (ix3 0 f (i 1))

/-- The reference is that sum. -/
theorem ref_eq (x0 : Vec Ideal S49152x1024 .f32) (x1 : Vec Ideal S2x1024 .f32)
    (x2 x3 : Vec Ideal S1x1024x3584 .f32) (x4 : Vec Ideal S1x3584x1024 .f32) :
    val_main_v23 (F := Ideal) x0 x1 x2 x3 x4 = ffn x0 x1 x2 x3 x4 := by
  funext i
  idx_vars i
  unfold ffn
  pointwise [val_main_v23, val_main_v22, val_main_v21, val_main_v20, val_main_v19, val_main_v18, val_main_v17, val_main_v16,
    val_main_v15, val_main_call0_v0, val_main_call0_v1, val_main_call0_v2, val_main_call0_v3, val_main_call0_v4,
    val_main_call0_v5, val_main_call0_cst, val_main_call0_cst_0]
  simp only [norm_at]

end Cert.FfnRefIdeal.Hand
end
-- ==== Proof.FfnFinal.lean ====
/- The dense feed-forward kernel's result array is the reference's sum. -/
module

public import proofs.«01_k».proof.Proof.FfnValue
public import proofs.«01_k».proof.Proof.FfnRef

@[expose] public section

set_option maxRecDepth 16384

noncomputable section

open Idealize.ShloMosaic Idealize.ShloMosaic.TcCoe Idealize.SL.Sem
open Idealize.ShloMosaic.Pipeline (Dat)

namespace Cert.FfnIdeal.Hand

open Cert.FfnIdeal Cert.FfnIdeal.Gen

variable (m : (ℓ : Loc nD τ sig) → Buf (Elt Ideal) ℓ)

theorem final (c : Dev nD) : (dats m 0 c).arrAt 5 cfg0.N
    = Cert.FfnRefIdeal.Hand.ffn (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  have h6 := (flush0_5 t).mp hf
  rw [after0_5, out_last m c t h6, Pipeline.eq_sum_fin_of_reset_step_apply_of_flush (fun n h => (outsAt0 m c n h).2.2) 7
    (fun _ => 0) (part m c) (scratch_reset m c) (scratch_step m c) t h6 y, zero_add]
  unfold Cert.FfnRefIdeal.Hand.ffn part row
  dsimp only
  refine Ideal.add_congr ?_ ?_
  · blk_ext [iblk, V, idx t]
  · refine Fin.sum_mul_add_congr fun s k hl => ?_
    have hs : (7 * (t.val / 7) + s.val) / 7 = t.val / 7 := by omega
    simp only [hs]
    blk_point [iblk, V, idx t, idx ⟨_, Pipeline.run_point_lt_of_flush t h6 s⟩]

end Cert.FfnIdeal.Hand
end
-- ==== Proof.FfnClaim.lean ====
/- The claim about the dense feed-forward call. -/
module

public import proofs.«01_k».proof.Defs
public import proofs.«01_k».proof.Proof.FfnFinal
public import proofs.«01_k».proof.Proof.Gen.Ffn.Frame
public import proofs.«01_k».proof.Proof.Gen.FfnRefIdeal.Run
public import Idealize.ShloMosaic.Lib.Claim

@[expose] public section

set_option maxRecDepth 16384

noncomputable section

open Idealize.ShloMosaic Idealize.ShloMosaic.TcCoe Idealize.SL.Sem

namespace Cert.FfnClaim

theorem algebraic : Cert.algebraic_FfnIdeal_FfnRefIdeal := by
  pair_intro
  · run_from Cert.FfnIdeal.Gen.run_main m g
  · run_from Cert.FfnRefIdeal.Value.run (F := Ideal) m' g'
    · exact (Cert.FfnRefIdeal.Read.val_main_v23_eq _ _ _ _ _).trans ((Cert.FfnRefIdeal.Hand.ref_eq _ _ _ _ _).trans (Cert.FfnIdeal.Hand.final m c).symm)

end Cert.FfnClaim
end
-- ==== Proof.ProjFinal.lean ====
/- The attention's output projection: the reference read at an index, and the kernel's result array. -/
module

public import proofs.«01_k».proof.Proof.Gen.ProjIdeal.Value
public import proofs.«01_k».proof.Proof.Gen.ProjRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ProjRefIdeal.Hand

open Cert.ProjRefIdeal Cert.ProjRefIdeal.Gen Cert.ProjRefIdeal.Read

/-- The residual stream plus the product. -/
def proj (x0 : Vec Ideal S49152x1024 .bf16) (x1 : Vec Ideal S1x1024x1024 .f32) (x2 : Vec Ideal S49152x1024 .f32) :
    Vec Ideal S49152x1024 .f32 := fun i =>
  x2 (ix2 (i 0) (i 1)) + ∑ l : Fin 1024, x0 (ix2 (i 0) l) * x1 (ix3 0 l (i 1))

/-- The reference is that sum. -/
theorem ref_eq (x0 : Vec Ideal S49152x1024 .bf16) (x1 : Vec Ideal S1x1024x1024 .f32) (x2 : Vec Ideal S49152x1024 .f32) :
    val_main_v3 (F := Ideal) x0 x1 x2 = proj x0 x1 x2 := by
  funext i
  idx_vars i
  unfold proj
  pointwise [val_main_v3, val_main_v2, val_main_v1, val_main_v0]

end Cert.ProjRefIdeal.Hand

namespace Cert.ProjIdeal.Hand

open Cert.ProjIdeal Cert.ProjIdeal.Gen

variable (m : (ℓ : Loc nD τ sig) → Buf (Elt Ideal) ℓ)

/-- The windows' block indices, by the point's number. -/
theorem idx : ∀ t : Fin cfg0.N,
    win0_0.index t = ![t.val, 0] ∧ win0_1.index t = ![0, 0] ∧ win0_2.index t = ![t.val, 0] ∧ win0_3.index t = ![t.val, 0] :=
  (by decide +kernel : ∀ t : Fin grid0.N, _)

/-- A block of the result. -/
theorem out_at (a : Vec Ideal S512x1024 .bf16) (w : Vec Ideal S1024x1024 .bf16) (v : Vec Ideal S512x1024 .f32) (j : S512x1024.Idx) :
    out0_3 (F := Ideal) a w v j = v j + ∑ l : Fin 1024, a (ix2 (j 0) l) * w (ix2 l (j 1)) := by
  unfold out0_3
  canon_tiles x h
  case piece0 =>
    obtain rfl : j = x := funext fun a => Fin.ext (match a with | ⟨0, _⟩ => h0 | ⟨1, _⟩ => h1)
    pointwise [k0_pay1]

theorem final (c : Dev nD) : (dats m 0 c).arrAt 3 cfg0.N
    = Cert.ProjRefIdeal.Hand.proj (m ((c : Thread nD τ).loc main_arg0)) (m ((c : Thread nD τ).loc main_arg1))
        (m ((c : Thread nD τ).loc main_arg2)) := by
  refine (dats m 0 c).arrAt_eq_of_covers 3 _ (by decide +kernel) fun t hf y => ?_
  blk_simp
  rw [after0_3]
  refine (out_at (iblk m c 0 t) (iblk m c 1 t) (iblk m c 2 t) y).trans ?_
  unfold Cert.ProjRefIdeal.Hand.proj
  blk_point [iblk, V, idx t]

end Cert.ProjIdeal.Hand
end
-- ==== Proof.ProjClaim.lean ====
/- The claim about the attention's output projection. -/
module

public import proofs.«01_k».proof.Defs
public import proofs.«01_k».proof.Proof.ProjFinal
public import proofs.«01_k».proof.Proof.Gen.Proj.Frame
public import proofs.«01_k».proof.Proof.Gen.ProjRefIdeal.Run
public import Idealize.ShloMosaic.Lib.Claim

@[expose] public section

set_option maxRecDepth 16384

noncomputable section

open Idealize.ShloMosaic Idealize.ShloMosaic.TcCoe Idealize.SL.Sem

namespace Cert.ProjClaim

theorem algebraic : Cert.algebraic_ProjIdeal_ProjRefIdeal := by
  pair_intro
  · run_from Cert.ProjIdeal.Gen.run_main m g
  · run_from Cert.ProjRefIdeal.Value.run (F := Ideal) m' g'
    · exact (Cert.ProjRefIdeal.Read.val_main_v3_eq _ _ _).trans ((Cert.ProjRefIdeal.Hand.ref_eq _ _ _).trans (Cert.ProjIdeal.Hand.final m c).symm)

end Cert.ProjClaim
end
-- ==== Proof.HeadNorm.lean ====
/- The heads' norm of the mLSTM's output call. -/
module

public import Idealize.ShloMosaic.Lib.Pointwise

@[expose] public section

set_option maxRecDepth 16384

noncomputable section

open Idealize.ShloMosaic Idealize.ShloMosaic.TcCoe Idealize.SL.Sem

namespace Cert.Norm

/-- Lane `l` of a row of eight heads of 128 lanes, over the root of the mean of its head's squares. The two words are 128
    and 10⁻⁶. -/
def head (row : Fin 1024 → EReal) (l : Fin 1024) : EReal :=
  row l * Ideal.rsqrt (Ideal.div (∑ e : Fin 128, row ⟨l.val / 128 * 128 + e.val, by omega⟩ * row ⟨l.val / 128 * 128 + e.val, by omega⟩)
    (Ideal.ofBits FTy.f32 1124073472#32) + Ideal.ofBits FTy.f32 897988541#32)

/-- The same, by head and lane of the head. -/
def lane (row : Fin 1024 → EReal) (k : Fin 8) (e : Fin 128) : EReal :=
  row ⟨128 * k.val + e.val, by omega⟩ * Ideal.rsqrt (Ideal.div (∑ e : Fin 128, row ⟨128 * k.val + e.val, by omega⟩ * row ⟨128 * k.val + e.val, by omega⟩)
    (Ideal.ofBits FTy.f32 1124073472#32) + Ideal.ofBits FTy.f32 897988541#32)

theorem lane_head (row : Fin 1024 → EReal) (k : Fin 8) (e : Fin 128) :
    lane row k e = head row ⟨128 * k.val + e.val, by omega⟩ := by
  unfold lane head
  have : (128 * k.val + e.val) / 128 * 128 = 128 * k.val := by omega
  simp only [this]

theorem lane_eq (row : Fin 1024 → EReal) (k : Fin 8) (e : Fin 128) (l : Fin 1024) (hl : l.val = 128 * k.val + e.val) :
    lane row k e = head row l :=
  (lane_head row k e).trans (congrArg _ (Fin.ext hl.symm))

end Cert.Norm
end
-- ==== Proof.MoutStep.lean ====
/- What one point of the mLSTM's output call computes, read at an index. -/
module

public import proofs.«01_k».proof.Proof.Gen.MoutIdeal.Frame
public import proofs.«01_k».proof.Proof.HeadNorm
public import proofs.«01_k».proof.Proof.Sums
public import Idealize.ShloMosaic.Lib.Pipeline.ValueKit

@[expose] public section

set_option maxRecDepth 16384

noncomputable section

open Idealize.ShloMosaic Idealize.ShloMosaic.TcCoe Idealize.SL.Sem

namespace Cert.MoutIdeal.Hand

open Cert.MoutIdeal Cert.MoutIdeal.Gen Cert.Norm

variable (a b : Vec Ideal S512x1024 .f32) (r : Fin 512) (e : Fin 128)

/-- The two halves' sum, one row. -/
def row (l : Fin 1024) : EReal := a (ix2 r l) + b (ix2 r l)

theorem head0 : k0_pay3 (F := Ideal) a b (ix2 r e) = lane (row a b r) 0 e := by
  pointwise [k0_pay3, k0_pay2, lane, row]

theorem head1 : k0_pay4 (F := Ideal) a b (ix2 r e) = lane (row a b r) 1 e := by
  pointwise [k0_pay4, k0_pay2, lane, row]

theorem head2 : k0_pay5 (F := Ideal) a b (ix2 r e) = lane (row a b r) 2 e := by
  pointwise [k0_pay5, k0_pay2, lane, row]

theorem head3 : k0_pay9 (F := Ideal) (k0_pay6 a b) (k0_pay7 a b) k0_pay8 (ix2 r e) = lane (row a b r) 3 e := by
  pointwise [k0_pay9, k0_pay8, k0_pay7, k0_pay6, k0_pay2, lane, row]

theorem head4 : k0_pay10 (F := Ideal) (k0_pay2 a b) (ix2 r e) = lane (row a b r) 4 e := by
  pointwise [k0_pay10, k0_pay2, lane, row]

theorem head5 : k0_pay11 (F := Ideal) (k0_pay2 a b) (ix2 r e) = lane (row a b r) 5 e := by
  pointwise [k0_pay11, k0_pay2, lane, row]

theorem head6 : k0_pay12 (F := Ideal) (k0_pay2 a b) (ix2 r e) = lane (row a b r) 6 e := by
  pointwise [k0_pay12, k0_pay2, lane, row]

theorem head7 : k0_pay13 (F := Ideal) (k0_pay2 a b) (ix2 r e) = lane (row a b r) 7 e := by
  pointwise [k0_pay13, k0_pay2, lane, row]

/-- The product over lanes that carry the eight pieces side by side. -/
theorem whole (h0 h1 h2 h3 h4 h5 h6 h7 : FVec Ideal S512x128 .f32) (g : Vec Ideal S1x1024 .f32) (o : Vec Ideal S512x1024 .bf16)
    (x : Vec Ideal S512x1024 .f32) (w : Vec Ideal S1024x1024 .bf16) (d : Fin 1024)
    (t0 : ∀ e, h0 (ix2 r e) = lane (row a b r) 0 e) (t1 : ∀ e, h1 (ix2 r e) = lane (row a b r) 1 e)
    (t2 : ∀ e, h2 (ix2 r e) = lane (row a b r) 2 e) (t3 : ∀ e, h3 (ix2 r e) = lane (row a b r) 3 e)
    (t4 : ∀ e, h4 (ix2 r e) = lane (row a b r) 4 e) (t5 : ∀ e, h5 (ix2 r e) = lane (row a b r) 5 e)
    (t6 : ∀ e, h6 (ix2 r e) = lane (row a b r) 6 e) (t7 : ∀ e, h7 (ix2 r e) = lane (row a b r) 7 e) :
    k0_pay1 (F := Ideal) h0 h1 h2 h3 h4 h5 h6 h7 g o x w (ix2 r d)
      = x (ix2 r d) + ∑ l : Fin 1024, Ideal.div 1 (1 + Ideal.exp (-o (ix2 r l))) * (head (row a b r) l * g (ix2 0 l)) * w (ix2 l d) := by
  pointwise [k0_pay1]
  refine congrArg _ (Finset.sum_congr rfl fun l _ => ?_)
  rw [zero_sub]
  refine congrArg (fun z => Ideal.div 1 (1 + Ideal.exp (-o (ix2 r l))) * (z * g (ix2 0 l)) * w (ix2 l d)) ?_
  split_ifs <;> simp only [t0, t1, t2, t3, t4, t5, t6, t7] <;> refine lane_eq _ _ _ _ ?_ <;> simp <;> omega

/-- A load of a whole window reads the window. -/
theorem ld_whole {dt : EltTy} (v : Vec Ideal S512x1024 dt) : View.ld v r0_0 = v := by
  funext i
  idx_vars i
  pointwise

theorem ld_gain (v : Vec Ideal S1x1024 .f32) : View.ld v r0_1 = v := by
  funext i
  idx_vars i
  obtain rfl : i0 = 0 := Subsingleton.elim _ _
  pointwise

theorem ld_matrix (v : Vec Ideal S1024x1024 .bf16) : View.ld v r0_2 = v := by
  funext i
  idx_vars i
  pointwise

/-- A block of the result. -/
theorem out_at (g : Vec Ideal S1x1024 .f32) (o : Vec Ideal S512x1024 .bf16) (w : Vec Ideal S1024x1024 .bf16)
    (x : Vec Ideal S512x1024 .f32) (j : S512x1024.Idx) :
    out0_6 (F := Ideal) a b o g w x j
      = x j + ∑ l : Fin 1024, Ideal.div 1 (1 + Ideal.exp (-o (ix2 (j 0) l))) * (head (row a b (j 0)) l * g (ix2 0 l)) * w (ix2 l (j 1)) := by
  unfold_out out0_6
  rw [ld_whole, ld_whole, ld_whole, ld_whole, ld_gain, ld_matrix]
  canon_tiles x h
  case piece0 =>
    obtain rfl : j = x := funext fun a => Fin.ext (match a with | ⟨0, _⟩ => h0 | ⟨1, _⟩ => h1)
    refine (congrArg _ (eq_ix2 j)).trans ((whole a b (j 0) _ _ _ _ _ _ _ _ g o x w (j 1) (head0 a b (j 0)) (head1 a b (j 0))
      (head2 a b (j 0)) (head3 a b (j 0)) (head4 a b (j 0)) (head5 a b (j 0)) (head6 a b (j 0)) (head7 a b (j 0))).trans ?_)
    exact congrArg (x · + _) (eq_ix2 j).symm

end Cert.MoutIdeal.Hand
end
-- ==== Proof.MoutRef.lean ====
/- The reference of the mLSTM's output call read at an index. -/
module

public import proofs.«01_k».proof.Proof.Gen.MoutRefIdeal.Read
public import proofs.«01_k».proof.Proof.HeadNorm

@[expose] public section

set_option maxRecDepth 16384

noncomputable section

open Idealize.ShloMosaic Idealize.ShloMosaic.TcCoe Idealize.SL.Sem

namespace Cert.MoutRefIdeal.Hand

open Cert.MoutRefIdeal Cert.MoutRefIdeal.Gen Cert.MoutRefIdeal.Read Cert.Norm

/-- The normed heads. -/
theorem norm_at (x0 x1 : Vec Ideal S49152x1024 .f32) (r : Fin 49152) (d : Fin 1024) :
    val_main_v12 (F := Ideal) x0 x1 (ix2 r d) = head (fun l => x0 (ix2 r l) + x1 (ix2 r l)) d := by
  pointwise [val_main_v12, val_main_v11, val_main_v10, val_main_v9, val_main_v8, val_main_v7, val_main_v6, val_main_v5, val_main_v4, val_main_v3, val_main_v2, val_main_v1, val_main_v0, val_main_cst, val_main_cst_0, val_main_cst_1, head]

/-- The residual stream plus the gated, normed heads times the output matrix. -/
def mout (x0 x1 : Vec Ideal S49152x1024 .f32) (x2 : Vec Ideal S49152x1024 .bf16) (x3 : Vec Ideal S1x1024 .f32)
    (x4 : Vec Ideal S1x1024x1024 .f32) (x5 : Vec Ideal S49152x1024 .f32) : Vec Ideal S49152x1024 .f32 := fun i =>
  x5 (ix2 (i 0) (i 1)) + ∑ l : Fin 1024, Ideal.div 1 (1 + Ideal.exp (-x2 (ix2 (i 0) l)))
    * (head (fun l => x0 (ix2 (i 0) l) + x1 (ix2 (i 0) l)) l * x3 (ix2 0 l)) * x4 (ix3 0 l (i 1))

/-- The reference is that sum. -/
theorem ref_eq (x0 x1 : Vec Ideal S49152x1024 .f32) (x2 : Vec Ideal S49152x1024 .bf16) (x3 : Vec Ideal S1x1024 .f32)
    (x4 : Vec Ideal S1x1024x1024 .f32) (x5 : Vec Ideal S49152x1024 .f32) :
    val_main_v27 (F := Ideal) x0 x1 x2 x3 x4 x5 = mout x0 x1 x2 x3 x4 x5 := by
  funext i
  idx_vars i
  unfold mout
  pointwise [val_main_v27, val_main_v26, val_main_v25, val_main_v24, val_main_v23, val_main_v22, val_main_v21, val_main_v20, val_main_v19, val_main_v18, val_main_v17, val_main_v16, val_main_v15, val_main_v14, val_main_v13, val_main_cst_2, val_main_cst_3]
  simp only [norm_at]

end Cert.MoutRefIdeal.Hand
end
-- ==== Proof.MoutFinal.lean ====
/- The array of the mLSTM's output call. -/
module

public import proofs.«01_k».proof.Proof.Gen.MoutIdeal.Value
public import proofs.«01_k».proof.Proof.MoutStep
public import proofs.«01_k».proof.Proof.MoutRef
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MoutIdeal.Hand

open Cert.MoutIdeal Cert.MoutIdeal.Gen

variable (m : (ℓ : Loc nD τ sig) → Buf (Elt Ideal) ℓ)

/-- The windows' block indices, by the point's number. -/
theorem idx : ∀ t : Fin cfg0.N,
    win0_0.index t = ![t.val, 0] ∧ win0_1.index t = ![t.val, 0] ∧ win0_2.index t = ![t.val, 0] ∧ win0_3.index t = ![0, 0]
    ∧ win0_4.index t = ![0, 0] ∧ win0_5.index t = ![t.val, 0] ∧ win0_6.index t = ![t.val, 0] :=
  (by decide +kernel : ∀ t : Fin grid0.N, _)

theorem final (c : Dev nD) : (dats m 0 c).arrAt 6 cfg0.N
    = Cert.MoutRefIdeal.Hand.mout (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  refine (dats m 0 c).arrAt_eq_of_covers 6 _ (by decide +kernel) fun t hf y => ?_
  blk_simp
  rw [after0_6]
  refine (out_at (iblk m c 0 t) (iblk m c 1 t) (iblk m c 3 t) (iblk m c 2 t) (iblk m c 4 t) (iblk m c 5 t) y).trans ?_
  unfold Cert.MoutRefIdeal.Hand.mout
  refine congrArg₂ (· + ·) ?_ (Finset.sum_congr rfl fun l _ => congrArg₂ (· * ·) (congrArg₂ (· * ·) ?_
    (congrArg₂ (· * ·) (congrArg (fun f => Cert.Norm.head f l) (funext fun k => ?_)) ?_)) ?_)
  · blk_point [iblk, V, idx t]
  · blk_point [iblk, V, idx t]
  · unfold row
    blk_point [iblk, V, idx t]
  · blk_point [iblk, V, idx t]
  · blk_point [iblk, V, idx t]

end Cert.MoutIdeal.Hand
end
-- ==== Proof.MoutClaim.lean ====
/- The claim about the mLSTM's output call. -/
module

public import proofs.«01_k».proof.Defs
public import proofs.«01_k».proof.Proof.MoutFinal
public import proofs.«01_k».proof.Proof.Gen.Mout.Frame
public import proofs.«01_k».proof.Proof.Gen.MoutRefIdeal.Run
public import Idealize.ShloMosaic.Lib.Claim

@[expose] public section

set_option maxRecDepth 16384

noncomputable section

open Idealize.ShloMosaic Idealize.ShloMosaic.TcCoe Idealize.SL.Sem

namespace Cert.MoutClaim

theorem algebraic : Cert.algebraic_MoutIdeal_MoutRefIdeal := by
  pair_intro
  · run_from Cert.MoutIdeal.Gen.run_main m g
  · run_from Cert.MoutRefIdeal.Value.run (F := Ideal) m' g'
    · exact (Cert.MoutRefIdeal.Read.val_main_v27_eq _ _ _ _ _ _).trans ((Cert.MoutRefIdeal.Hand.ref_eq _ _ _ _ _ _).trans (Cert.MoutIdeal.Hand.final m c).symm)

end Cert.MoutClaim
end
-- ==== Proof.MinRef.lean ====
/- The reference of the mLSTM's projections read at an index. -/
module

public import proofs.«01_k».proof.Proof.Gen.MinRefIdeal.Read
public import proofs.«01_k».proof.Proof.Norm
public import proofs.«01_k».proof.Proof.Sums

@[expose] public section

set_option maxRecDepth 16384

noncomputable section

open Idealize.ShloMosaic Idealize.ShloMosaic.TcCoe Idealize.SL.Sem

namespace Cert.MinRefIdeal.Hand

open Cert.MinRefIdeal Cert.MinRefIdeal.Gen Cert.MinRefIdeal.Read

variable (x0 : Vec Ideal S49152x1024 .f32) (x1 : Vec Ideal S2x1024 .f32) (x2 : Vec Ideal S1x1024x3104 .f32) (x3 : Vec Ideal S1x32 .f32)

/-- The normed rows. -/
theorem norm_at (r : Fin 49152) (d : Fin 1024) :
    val_main_v14 (F := Ideal) x0 x1 (ix2 r d) = Cert.Norm.rms (fun l => x0 (ix2 r l)) (x1 (ix2 0 d)) d := by
  pointwise [val_main_v14, val_main_v13, val_main_v12, val_main_v11, val_main_v10,
    val_main_v9, val_main_v8, val_main_v7, val_main_v6, val_main_v5, val_main_v4, val_main_v3, val_main_v2, val_main_v1,
    val_main_v0, val_main_cst, val_main_cst_0, val_main_cst_1, Cert.Norm.rms]

/-- A normed row times a column of the matrix. -/
def prod (r : Fin 49152) (k : Fin 3104) : EReal :=
  ∑ l : Fin 1024, Cert.Norm.rms (fun l => x0 (ix2 r l)) (x1 (ix2 0 l)) l * x2 (ix3 0 l k)

theorem prod_at (r : Fin 49152) (k : Fin 3104) : val_main_v16 (F := Ideal) x0 x1 x2 (ix2 r k) = prod x0 x1 x2 r k := by
  unfold prod
  pointwise [val_main_v16, val_main_v15]
  simp only [norm_at]

/-- The scaled queries. -/
def queries : Vec Ideal S49152x512 .bf16 := fun i => prod x0 x1 x2 (i 0) ⟨(i 1).val, by have h : (i 1).val < 512 := (i 1).isLt; omega⟩ * Ideal.ofBits FTy.f32 1040187392#32

theorem queries_eq : val_main_v39 (F := Ideal) x0 x1 x2 = queries x0 x1 x2 := by
  funext i
  idx_vars i
  unfold queries
  pointwise [val_main_v39, val_main_v38, val_main_v37, val_main_cst_2, val_main_v17]
  exact congrArg (· * _) (prod_at x0 x1 x2 _ _)

/-- The keys, by chunks of 128 tokens. -/
def keys : Vec Ideal S384x512x128 .bf16 := fun i =>
  prod x0 x1 x2 ⟨(i 0).val * 128 + (i 2).val, by have h : (i 0).val < 384 := (i 0).isLt; have h : (i 2).val < 128 := (i 2).isLt; omega⟩
    ⟨(i 1).val + 512, by have h : (i 1).val < 512 := (i 1).isLt; omega⟩

theorem keys_eq : val_main_v42 (F := Ideal) x0 x1 x2 = keys x0 x1 x2 := by
  funext i
  idx_vars i
  unfold keys
  pointwise [val_main_v42, val_main_v41, val_main_v40, val_main_v18]
  exact (prod_at x0 x1 x2 _ _).trans (congrArg _ (Fin.ext (Nat.add_comm _ _)))

/-- The values. -/
def values : Vec Ideal S49152x1024 .bf16 := fun i => prod x0 x1 x2 (i 0) ⟨(i 1).val + 1024, by have h : (i 1).val < 1024 := (i 1).isLt; omega⟩

theorem values_eq : val_main_v43 (F := Ideal) x0 x1 x2 = values x0 x1 x2 := by
  funext i
  idx_vars i
  unfold values
  pointwise [val_main_v43, val_main_v19]
  exact (prod_at x0 x1 x2 _ _).trans (congrArg _ (Fin.ext (Nat.add_comm _ _)))

/-- The output gates. -/
def outs : Vec Ideal S49152x1024 .bf16 := fun i => prod x0 x1 x2 (i 0) ⟨(i 1).val + 2048, by have h : (i 1).val < 1024 := (i 1).isLt; omega⟩

theorem outs_eq : val_main_v44 (F := Ideal) x0 x1 x2 = outs x0 x1 x2 := by
  funext i
  idx_vars i
  unfold outs
  pointwise [val_main_v44, val_main_v20]
  exact (prod_at x0 x1 x2 _ _).trans (congrArg _ (Fin.ext (Nat.add_comm _ _)))

/-- A gate before the logarithm, by its column. -/
def pre (r : Fin 49152) (k : Fin 32) : EReal := prod x0 x1 x2 r ⟨k.val + 3072, by omega⟩ + x3 (ix2 0 k)

theorem pre_at (r : Fin 49152) (k : Fin 32) : val_main_v25 (F := Ideal) x0 x1 x2 x3 (ix2 r k) = pre x0 x1 x2 x3 r k := by
  unfold pre
  pointwise [val_main_v25, val_main_v24, val_main_v23, val_main_v22, val_main_v21]
  exact congrArg (· + _) ((prod_at x0 x1 x2 _ _).trans (congrArg _ (Fin.ext (Nat.add_comm _ _))))

/-- The logarithm of the logistic function, as the minimum less a logarithm. -/
def logSig (z : EReal) : EReal := min z 0 - Ideal.log1p (Ideal.exp (-max z (-z)))

theorem log_ne_bot (x : EReal) : Ideal.log1p (Ideal.exp x) ≠ ⊥ := by
  unfold Ideal.log1p
  induction x with
  | bot =>
    rw [show Ideal.exp ⊥ = 0 from rfl, add_zero, ← EReal.coe_one, Ideal.log_coe, if_neg (by norm_num)]
    exact EReal.coe_ne_bot _
  | top =>
    rw [show Ideal.exp ⊤ = ⊤ from rfl, EReal.add_top_of_ne_bot (by decide), Ideal.log_top]
    exact top_ne_bot
  | coe r =>
    have h : ¬(1 + Real.exp r ≤ 0) := not_le.2 (by positivity)
    rw [show Ideal.exp (r : EReal) = (Real.exp r : EReal) from rfl, ← EReal.coe_one, ← EReal.coe_add, Ideal.log_coe, if_neg h]
    exact EReal.coe_ne_bot _

/-- The same written with the maximum. -/
theorem logSig_eq (z : EReal) : -(max (-z) 0 + Ideal.log1p (Ideal.exp (-max (-z) (-(-z))))) = logSig z := by
  unfold logSig
  rw [neg_neg, max_comm (-z) z, EReal.neg_add (Or.inl ?_) (Or.inr (log_ne_bot _))]
  · refine congrArg (· - _) ?_
    rcases le_total z 0 with h | h
    · rw [min_eq_left h, max_eq_left (EReal.le_neg_of_le_neg (by simpa using h)), neg_neg]
    · rw [min_eq_right h, max_eq_right (EReal.neg_le_of_neg_le (by simpa using h)), neg_zero]
  · exact ne_of_gt (lt_of_lt_of_le EReal.bot_lt_zero (le_max_right _ _))

/-- The column of the matrix's gates that the rearranged row `g` comes from. -/
def col (g : Fin 32) : Fin 32 := ⟨g.val / 2 % 2 * 16 + g.val % 2 * 8 + g.val / 4, by omega⟩

/-- A gate, by its rearranged row. -/
def gate (r : Fin 49152) (g : Fin 32) : EReal :=
  if g.val % 2 < 1 then pre x0 x1 x2 x3 r (col g) else logSig (pre x0 x1 x2 x3 r (col g))

theorem in_at (r : Fin 49152) (d : Fin 2) (h : Fin 8) :
    val_main_v28 (F := Ideal) x0 x1 x2 x3 (ix3 r d h) = pre x0 x1 x2 x3 r ⟨d.val * 16 + h.val, by omega⟩ := by
  pointwise [val_main_v28, val_main_v27, val_main_v26]
  exact pre_at x0 x1 x2 x3 _ _

theorem forget_at (r : Fin 49152) (d : Fin 2) (h : Fin 8) :
    val_main_v31 (F := Ideal) x0 x1 x2 x3 (ix3 r d h) = logSig (pre x0 x1 x2 x3 r ⟨d.val * 16 + 8 + h.val, by omega⟩) := by
  pointwise [val_main_v31, val_main_call0_v1, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_call0_cst, val_main_call0_v0, val_main_v30, val_main_v29, val_main_v26]
  rw [if_neg (not_not_intro rfl), pre_at]
  exact logSig_eq _

/-- The gates, by chunks of 128 tokens. -/
def gates : Vec Ideal S384x32x128 .f32 := fun i =>
  gate x0 x1 x2 x3 ⟨(i 0).val * 128 + (i 2).val, by have h : (i 0).val < 384 := (i 0).isLt; have h : (i 2).val < 128 := (i 2).isLt; omega⟩ (i 1)

theorem gates_eq : val_main_v46 (F := Ideal) x0 x1 x2 x3 = gates x0 x1 x2 x3 := by
  funext i
  idx_vars i
  unfold gates gate
  pointwise [val_main_v46, val_main_v45, val_main_v36, val_main_v35, val_main_v34, val_main_v33, val_main_v32]
  split_ifs with h
  · exact (in_at x0 x1 x2 x3 _ _ _).trans (congrArg _ (Fin.ext (by show i1.val / 2 % 2 * 16 + i1.val / 4 = i1.val / 2 % 2 * 16 + i1.val % 2 * 8 + i1.val / 4; omega)))
  all_goals exact (forget_at x0 x1 x2 x3 _ _ _).trans (congrArg (fun k => logSig (pre x0 x1 x2 x3 _ k)) (Fin.ext (by show i1.val / 2 % 2 * 16 + 8 + i1.val / 4 = i1.val / 2 % 2 * 16 + i1.val % 2 * 8 + i1.val / 4; omega)))

end Cert.MinRefIdeal.Hand
end
-- ==== Proof.MinStep.lean ====
/- What one point of the mLSTM's projections computes, read at an index. -/
module

public import proofs.«01_k».proof.Proof.Gen.MinIdeal.Value
public import proofs.«01_k».proof.Proof.MinRef
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.MinIdeal.Hand

open Cert.MinIdeal Cert.MinIdeal.Gen Cert.MinRefIdeal.Hand

variable (x : Vec Ideal S512x1024 .f32) (g : Vec Ideal S1x1024 .f32) (wq : Vec Ideal S1024x512 .bf16) (wk : Vec Ideal S512x1024 .bf16)
  (wv wo : Vec Ideal S1024x1024 .bf16) (wg : Vec Ideal S32x1024 .bf16) (bg : Vec Ideal S32x1 .f32)

/-- A normed row of the block. -/
abbrev nrm (r : Fin 512) (l : Fin 1024) : EReal := Cert.Norm.rms (fun l => x (ix2 r l)) (g (ix2 0 l)) l

theorem norm_at (r : Fin 512) (l : Fin 1024) : k0_pay1 (F := Ideal) x g (ix2 r l) = nrm x g r l := by
  pointwise [k0_pay1, Cert.Norm.rms]

theorem query_at (r d : Fin 512) : k0_pay2 (F := Ideal) x g wq (ix2 r d)
    = (∑ l : Fin 1024, nrm x g r l * wq (ix2 l d)) * Ideal.ofBits FTy.f32 1040187392#32 := by
  pointwise [k0_pay2]
  simp only [norm_at]

theorem value_at (r : Fin 512) (d : Fin 1024) : k0_pay3 (F := Ideal) x g wv (ix2 r d)
    = ∑ l : Fin 1024, nrm x g r l * wv (ix2 l d) := by
  pointwise [k0_pay3]
  simp only [norm_at]

theorem gateOut_at (r : Fin 512) (d : Fin 1024) : k0_pay4 (F := Ideal) x g wo (ix2 r d)
    = ∑ l : Fin 1024, nrm x g r l * wo (ix2 l d) := by
  pointwise [k0_pay4]
  simp only [norm_at]

theorem key_at (d t : Fin 512) : k0_pay5 (F := Ideal) (k0_pay1 x g) wk (ix2 d t)
    = ∑ l : Fin 1024, nrm x g t l * wk (ix2 d l) := by
  pointwise [k0_pay5]
  simp only [norm_at]
  exact Finset.sum_congr rfl fun l _ => mul_comm _ _

/-- The test of a row's number: whether it is odd. -/
theorem odd : ∀ p : Fin 32, IntOp.cmpi CmpIPredicate.eq
        (Scalar.select
          (IntOp.andi
            (IntOp.xori
              (IntOp.cmpi CmpIPredicate.slt
                (IntOp.remsi ArithUnit.vector (BitVec.ofNat 32 p.val)
                  (Scalar.select (Scalar.cmpi CmpIPredicate.eq 2#32 0#32) 1#32 2#32))
                0#32)
              (Scalar.cmpi CmpIPredicate.slt (Scalar.select (Scalar.cmpi CmpIPredicate.eq 2#32 0#32) 1#32 2#32) 0#32))
            (IntOp.cmpi CmpIPredicate.ne
              (IntOp.remsi ArithUnit.vector (BitVec.ofNat 32 p.val)
                (Scalar.select (Scalar.cmpi CmpIPredicate.eq 2#32 0#32) 1#32 2#32))
              0#32))
          (IntOp.addi
            (IntOp.remsi ArithUnit.vector (BitVec.ofNat 32 p.val)
              (Scalar.select (Scalar.cmpi CmpIPredicate.eq 2#32 0#32) 1#32 2#32))
            (Scalar.select (Scalar.cmpi CmpIPredicate.eq 2#32 0#32) 1#32 2#32))
          (IntOp.remsi ArithUnit.vector (BitVec.ofNat 32 p.val)
            (Scalar.select (Scalar.cmpi CmpIPredicate.eq 2#32 0#32) 1#32 2#32)))
        1#32 = if p.val % 2 < 1 then 0#1 else 1#1 := by
  decide +kernel

/-- A row of a block's gates. -/
def row (t : Fin 512) (p : Fin 32) : EReal := (∑ l : Fin 1024, nrm x g t l * wg (ix2 p l)) + bg (ix2 p 0)

theorem gate_at (p : Fin 32) (t : Fin 512) : k0_pay6 (F := Ideal) (k0_pay1 x g) wg bg (ix2 p t)
    = if p.val % 2 < 1 then row x g wg bg t p else logSig (row x g wg bg t p) := by
  have e : (∑ l : Fin 1024, wg (ix2 p l) * k0_pay1 (F := Ideal) x g (ix2 t l)) + bg (ix2 p 0) = row x g wg bg t p :=
    congrArg (· + _) (Finset.sum_congr rfl fun l _ => (mul_comm _ _).trans (congrArg (· * _) (norm_at x g t l)))
  pointwise [k0_pay6]
  rw [e, odd p, Sums.zero_sub']
  by_cases h : p.val % 2 < 1
  · rw [if_pos h, if_pos h]
    rfl
  · rw [if_neg h, if_neg h]
    rfl

/-- A load of a whole window reads the window. -/
theorem ld_rows {dt : EltTy} (v : Vec Ideal S512x1024 dt) : View.ld v r0_0 = v := by
  funext i
  idx_vars i
  pointwise

theorem ld_gain (v : Vec Ideal S1x1024 .f32) : View.ld v r0_1 = v := by
  funext i
  idx_vars i
  obtain rfl : i0 = 0 := Subsingleton.elim _ _
  pointwise

theorem ld_wq (v : Vec Ideal S1024x512 .bf16) : View.ld v r0_2 = v := by
  funext i
  idx_vars i
  pointwise

theorem ld_square (v : Vec Ideal S1024x1024 .bf16) : View.ld v r0_4 = v := by
  funext i
  idx_vars i
  pointwise

theorem ld_wg (v : Vec Ideal S32x1024 .bf16) : View.ld v r0_5 = v := by
  funext i
  idx_vars i
  pointwise

theorem ld_bg (v : Vec Ideal S32x1 .f32) : View.ld v r0_6 = v := by
  funext i
  idx_vars i
  obtain rfl : i1 = 0 := Subsingleton.elim _ _
  pointwise

theorem query_block (j : S512x512.Idx) : out0_8 (F := Ideal) x g wq wk wv wo wg bg j
    = (∑ l : Fin 1024, nrm x g (j 0) l * wq (ix2 l (j 1))) * Ideal.ofBits FTy.f32 1040187392#32 := by
  unfold_out out0_8
  rw [ld_rows, ld_gain, ld_wq]
  canon_tiles y h
  case piece0 =>
    obtain rfl : j = y := funext fun a => Fin.ext (match a with | ⟨0, _⟩ => h0 | ⟨1, _⟩ => h1)
    exact (congrArg _ (eq_ix2 j)).trans (query_at x g wq (j 0) (j 1))

theorem value_block (j : S512x1024.Idx) : out0_10 (F := Ideal) x g wq wk wv wo wg bg j
    = ∑ l : Fin 1024, nrm x g (j 0) l * wv (ix2 l (j 1)) := by
  unfold_out out0_10
  rw [ld_rows, ld_gain, ld_square]
  canon_tiles y h
  case piece0 =>
    obtain rfl : j = y := funext fun a => Fin.ext (match a with | ⟨0, _⟩ => h0 | ⟨1, _⟩ => h1)
    exact (congrArg _ (eq_ix2 j)).trans (value_at x g wv (j 0) (j 1))

theorem gateOut_block (j : S512x1024.Idx) : out0_11 (F := Ideal) x g wq wk wv wo wg bg j
    = ∑ l : Fin 1024, nrm x g (j 0) l * wo (ix2 l (j 1)) := by
  unfold_out out0_11
  rw [ld_rows, ld_gain, ld_square]
  canon_tiles y h
  case piece0 =>
    obtain rfl : j = y := funext fun a => Fin.ext (match a with | ⟨0, _⟩ => h0 | ⟨1, _⟩ => h1)
    exact (congrArg _ (eq_ix2 j)).trans (gateOut_at x g wo (j 0) (j 1))

theorem key_block (j : S4x512x128.Idx) : out0_9 (F := Ideal) x g wq wk wv wo wg bg j
    = ∑ l : Fin 1024, nrm x g ⟨(j 0).val * 128 + (j 2).val, by have h : (j 0).val < 4 := (j 0).isLt; have h : (j 2).val < 128 := (j 2).isLt; omega⟩ l
        * wk (ix2 (j 1) l) := by
  unfold_out out0_9
  rw [ld_rows, ld_rows, ld_gain]
  refine (Cert.MinIdeal.Value.canon9_eq x g wk j).trans ?_
  refine Eq.trans ?_ (key_at x g wk (j 1) _)
  exact congrArg (k0_pay5 (F := Ideal) (k0_pay1 x g) wk) (eq_ix2 _)

theorem gate_block (j : S4x32x128.Idx) : out0_12 (F := Ideal) x g wq wk wv wo wg bg j
    = if (j 1).val % 2 < 1 then row x g wg bg ⟨(j 0).val * 128 + (j 2).val, by have h : (j 0).val < 4 := (j 0).isLt; have h : (j 2).val < 128 := (j 2).isLt; omega⟩ (j 1)
      else logSig (row x g wg bg ⟨(j 0).val * 128 + (j 2).val, by have h : (j 0).val < 4 := (j 0).isLt; have h : (j 2).val < 128 := (j 2).isLt; omega⟩ (j 1)) := by
  unfold_out out0_12
  rw [ld_rows, ld_gain, ld_wg, ld_bg]
  refine (Cert.MinIdeal.Value.canon12_eq x g wg bg j).trans ?_
  refine Eq.trans ?_ (gate_at x g wg bg (j 1) _)
  exact congrArg (k0_pay6 (F := Ideal) (k0_pay1 x g) wg bg) (eq_ix2 _)

end Cert.MinIdeal.Hand
end
-- ==== Proof.MinHost.lean ====
/- The rearranged gate columns, read at an index. -/
module

public import proofs.«01_k».proof.Proof.Gen.MinIdeal.Value
public import proofs.«01_k».proof.Proof.MinRef
public import Idealize.ShloMosaic.Lib.Pipeline.ValueKit
public import Idealize.ShloMosaic.Lib.Pointwise
public import Idealize.ShloMosaic.Lib.Routing.OpsSet

@[expose] public section

set_option maxRecDepth 16384

noncomputable section

open Idealize.ShloMosaic Idealize.ShloMosaic.TcCoe Idealize.SL.Sem

namespace Cert.MinIdeal.Hand

open Idealize.ShloMosaic.Routing Cert.MinIdeal Cert.MinIdeal.Gen Cert.MinRefIdeal.Hand

variable (m : (ℓ : Loc nD τ sig) → Buf (Elt Ideal) ℓ)

/-- A gather over the columns of a matrix: where `idx` holds at `(c, 0)` a column number `b`, entry `(y, c)` of the result is the
    matrix's entry `(y, b)`. -/
theorem gather_col {α : Type} {K nb n : Nat} (d : GatherDims (shape2 K nb) (shape2 n 1) (shape2 K n)) (hoff : d.offsetDims = [0])
    (hcoll : d.collapsedSliceDims = [1]) (hob : d.operandBatchingDims = []) (hsim : d.startIndexMap = [1]) (hivd : d.indexVectorDim = 1)
    (x : (shape2 K nb).Idx → α) (idx : IVec (shape2 n 1) 32) (c : Fin n) (y : Fin K) (b : Fin nb)
    (hb : idx (ix2 c (0 : Fin 1)) = BitVec.ofNat 32 b.val) (hnb : nb < 2 ^ 31) : Host.gather d x idx (ix2 y c) = x (ix2 y b) := by
  unfold Host.gather
  refine congrArg x (funext fun a => Fin.ext ?_)
  have hbN : ∀ a', a' ∉ d.operandBatchingDims := fun a' => by rw [hob]; exact List.not_mem_nil
  have h01 : (0 : Fin 2) ∉ [(1 : Fin 2)] := by decide
  have hk1 : ∀ k ∈ d.batchDims, k = (1 : Fin 2) := fun k hk => by
    have hk' : k ∉ d.offsetDims := of_decide_eq_true (List.mem_filter.1 hk).2
    rw [hoff] at hk'
    have h1 : k.val ≠ 0 := fun e => hk' (List.mem_singleton.2 (Fin.ext e))
    have h2 : k.val < 2 := k.isLt
    exact Fin.ext (by show k.val = 1; omega)
  have hk0 : ∀ k ∈ d.offsetDims, k = (0 : Fin 2) := fun k hk => by rw [hoff] at hk; exact List.mem_singleton.1 hk
  have e0 : ∀ X : Fin 2, X = 0 → (ix2 y c X).val = y.val := fun X h => by subst h; rfl
  have e1 : ∀ X : Fin 2, X = 1 → (ix2 y c X).val = c.val := fun X h => by subst h; rfl
  match a with
  | ⟨1, _⟩ =>
    have hk : (1 : Fin 2) ∉ d.sKept := fun h => ((d.mem_sKept 1).1 h).1 (by rw [hcoll]; exact List.mem_singleton.2 rfl)
    have hm : (1 : Fin 2) ∈ d.startIndexMap := by rw [hsim]; exact List.mem_singleton.2 rfl
    have hsl : d.sliceSizes 1 = 1 := d.slice_collapsed 1 (by rw [hcoll]; exact List.mem_singleton.2 rfl)
    show d.start (ix2 y c) idx 1 + d.batchCoord (ix2 y c) 1 + d.offCoord (ix2 y c) 1 = b.val
    rw [d.batchCoord_eq_zero _ _ (hbN 1), d.offCoord_eq_zero _ _ hk]
    simp only [Nat.add_zero]
    unfold GatherDims.start
    rw [dif_pos hm]
    have hsi : d.siIdx (ix2 y c) ⟨d.startIndexMap.idxOf 1, List.idxOf_lt_length_iff.2 hm⟩ = ix2 c (0 : Fin 1) := by
      funext b'
      apply Fin.ext
      match b' with
      | ⟨0, _⟩ =>
        unfold GatherDims.siIdx
        rw [dif_neg (by rw [hivd]; exact Nat.zero_ne_one)]
        unfold GatherDims.siCoord
        simp only [Fin.val_cast]
        exact e1 _ (hk1 _ (List.getElem_mem _))
      | ⟨1, _⟩ =>
        unfold GatherDims.siIdx
        rw [dif_pos (by rw [hivd])]
        show List.idxOf (1 : Fin 2) d.startIndexMap = 0
        rw [hsim]; simp
    have hbl := b.isLt
    rw [hsi, hb, hsl, StableHlo.Predicate.toInt_ofNat_small _ (by omega)]
    show min ((b.val : Int)).toNat (nb - 1) = b.val
    omega
  | ⟨0, _⟩ =>
    have hk : (0 : Fin 2) ∈ d.sKept := (d.mem_sKept 0).2 ⟨by rw [hcoll]; exact h01, hbN 0⟩
    have hm : (0 : Fin 2) ∉ d.startIndexMap := by rw [hsim]; exact h01
    show d.start (ix2 y c) idx 0 + d.batchCoord (ix2 y c) 0 + d.offCoord (ix2 y c) 0 = y.val
    rw [d.batchCoord_eq_zero _ _ (hbN 0), Nat.add_zero]
    unfold GatherDims.start GatherDims.offCoord
    rw [dif_neg hm, dif_pos hk, Nat.zero_add]
    exact e0 _ (hk0 _ (List.getElem_mem _))

/-- The table of columns. -/
theorem table : ∀ g : Fin 32, Scalar.select (IntOp.cmpi .slt (lit0 (S32.rowMajor (ix1 g))) 0#32) (IntOp.addi (lit0 (S32.rowMajor (ix1 g))) 32#32) (lit0 (S32.rowMajor (ix1 g)))
    = BitVec.ofNat 32 (col g).val := by
  decide +kernel

theorem weights_at (c : Dev nD) (p : Fin 32) (l : Fin 1024) : (V m c main_v19 : Vec Ideal S32x1024 .bf16) (ix2 p l)
    = (m ((c : Thread nD τ).loc main_arg2) : Vec Ideal S1x1024x3104 .f32) (ix3 0 l ⟨(col p).val + 3072, by omega⟩) := by
  unfold V hostOps0
  after_results
  pointwise
  refine (gather_col _ rfl rfl rfl rfl rfl _ _ p l (col p) ?_ (by norm_num)).trans ?_
  · pointwise
    exact table p
  · pointwise
    exact congrArg (fun k => (m (c, Proc.tc.devRef main_arg2) : Vec Ideal S1x1024x3104 .f32) (ix3 0 l k)) (Fin.ext (Nat.add_comm _ _))

theorem bias_at (c : Dev nD) (p : Fin 32) : (V m c main_v28 : Vec Ideal S32x1 .f32) (ix2 p 0)
    = (m ((c : Thread nD τ).loc main_arg3) : Vec Ideal S1x32 .f32) (ix2 0 (col p)) := by
  unfold V hostOps0
  after_results
  pointwise
  refine (Idealize.ShloMosaic.Routing.gather_take1 _ rfl rfl rfl rfl _ _ p (col p) ?_ (by norm_num)).trans ?_
  · pointwise
    exact table p
  · pointwise

end Cert.MinIdeal.Hand
end
-- ==== Proof.MinFinal.lean ====
/- The arrays of the mLSTM's projections. -/
module

public import proofs.«01_k».proof.Proof.MinStep
public import proofs.«01_k».proof.Proof.MinHost

@[expose] public section

set_option maxRecDepth 16384

noncomputable section

open Idealize.ShloMosaic Idealize.ShloMosaic.TcCoe Idealize.SL.Sem

open Idealize.ShloMosaic.Pipeline (Dat)

namespace Cert.MinIdeal.Hand

open Cert.MinIdeal Cert.MinIdeal.Gen Cert.MinRefIdeal.Hand

variable (m : (ℓ : Loc nD τ sig) → Buf (Elt Ideal) ℓ)

/-- The windows' block indices, by the point's number. -/
theorem idx : ∀ t : Fin cfg0.N,
    win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0]
    ∧ win0_8.index t = ![t.val, 0] ∧ win0_9.index t = ![t.val, 0, 0] ∧ win0_10.index t = ![t.val, 0] ∧ win0_11.index t = ![t.val, 0]
    ∧ win0_12.index t = ![t.val, 0, 0] :=
  (by decide +kernel : ∀ t : Fin grid0.N, _)

theorem points : cfg0.N = 96 := by decide +kernel

/-- The normed row of the tokens that a row of the block stands for. -/
theorem nrm_at (c : Dev nD) (t : Fin cfg0.N) (r : Fin 512) (k : Fin 49152) (hk : k.val = t.val * 512 + r.val) (l : Fin 1024) :
    nrm (iblk m c 0 t) (iblk m c 1 t) r l
      = Cert.Norm.rms (fun l => (m ((c : Thread nD τ).loc main_arg0) : Vec Ideal S49152x1024 .f32) (ix2 k l))
          ((m ((c : Thread nD τ).loc main_arg1) : Vec Ideal S2x1024 .f32) (ix2 0 l)) l := by
  have ht : t.val < 96 := lt_of_lt_of_eq t.isLt points
  have hb : t.val * 512 + r.val < 49152 := by omega
  obtain rfl : (⟨t.val * 512 + r.val, hb⟩ : Fin 49152) = k := Fin.ext hk.symm
  clear hk
  refine congrArg₂ (fun f e => Cert.Norm.rms f e l) (funext fun d => ?_) ?_
  · blk_ext [iblk, V, idx t]
  · blk_simp [iblk, V, idx t]
    unfold hostOps0
    after_results
    pointwise
    blk_ext [idx t]

theorem wq_at (c : Dev nD) (t : Fin cfg0.N) (l : Fin 1024) (d : Fin 512) : iblk m c 2 t (ix2 l d)
    = (m ((c : Thread nD τ).loc main_arg2) : Vec Ideal S1x1024x3104 .f32) (ix3 0 l ⟨d.val, by omega⟩) := by
  blk_simp [iblk, V, idx t]
  unfold hostOps0
  after_results
  pointwise
  blk_ext [idx t]

theorem wk_at (c : Dev nD) (t : Fin cfg0.N) (l : Fin 1024) (d : Fin 512) : iblk m c 3 t (ix2 d l)
    = (m ((c : Thread nD τ).loc main_arg2) : Vec Ideal S1x1024x3104 .f32) (ix3 0 l ⟨d.val + 512, by omega⟩) := by
  blk_simp [iblk, V, idx t]
  unfold hostOps0
  after_results
  pointwise
  blk_ext [idx t]

theorem wv_at (c : Dev nD) (t : Fin cfg0.N) (l d : Fin 1024) : iblk m c 4 t (ix2 l d)
    = (m ((c : Thread nD τ).loc main_arg2) : Vec Ideal S1x1024x3104 .f32) (ix3 0 l ⟨d.val + 1024, by omega⟩) := by
  blk_simp [iblk, V, idx t]
  unfold hostOps0
  after_results
  pointwise
  blk_ext [idx t]

theorem wo_at (c : Dev nD) (t : Fin cfg0.N) (l d : Fin 1024) : iblk m c 5 t (ix2 l d)
    = (m ((c : Thread nD τ).loc main_arg2) : Vec Ideal S1x1024x3104 .f32) (ix3 0 l ⟨d.val + 2048, by omega⟩) := by
  blk_simp [iblk, V, idx t]
  unfold hostOps0
  after_results
  pointwise
  blk_ext [idx t]

theorem wg_at (c : Dev nD) (t : Fin cfg0.N) (p : Fin 32) (l : Fin 1024) : iblk m c 6 t (ix2 p l)
    = (m ((c : Thread nD τ).loc main_arg2) : Vec Ideal S1x1024x3104 .f32) (ix3 0 l ⟨(col p).val + 3072, by omega⟩) := by
  refine Eq.trans ?_ (weights_at m c p l)
  blk_ext [iblk, idx t]

theorem bg_at (c : Dev nD) (t : Fin cfg0.N) (p : Fin 32) : iblk m c 7 t (ix2 p 0)
    = (m ((c : Thread nD τ).loc main_arg3) : Vec Ideal S1x32 .f32) (ix2 0 (col p)) := by
  refine Eq.trans ?_ (bias_at m c p)
  blk_ext [iblk, idx t]

theorem final_query (c : Dev nD) : (dats m 0 c).arrAt 8 cfg0.N
    = queries (m ((c : Thread nD τ).loc main_arg0)) (m ((c : Thread nD τ).loc main_arg1)) (m ((c : Thread nD τ).loc main_arg2)) := by
  refine (dats m 0 c).arrAt_eq_of_covers 8 _ (by decide +kernel) fun t hf y => ?_
  blk_simp
  rw [after0_8]
  refine (query_block (iblk m c 0 t) (iblk m c 1 t) (iblk m c 2 t) (iblk m c 3 t) (iblk m c 4 t) (iblk m c 5 t) (iblk m c 6 t) (iblk m c 7 t) y).trans ?_
  unfold queries
  refine congrArg (· * _) (Finset.sum_congr rfl fun l _ => congrArg₂ (· * ·) (nrm_at m c t _ _ ?_ l) ((wq_at m c t _ _).trans ?_))
  · blk_point [idx t]
  · blk_point [idx t]

theorem final_value (c : Dev nD) : (dats m 0 c).arrAt 10 cfg0.N
    = values (m ((c : Thread nD τ).loc main_arg0)) (m ((c : Thread nD τ).loc main_arg1)) (m ((c : Thread nD τ).loc main_arg2)) := by
  refine (dats m 0 c).arrAt_eq_of_covers 10 _ (by decide +kernel) fun t hf y => ?_
  blk_simp
  rw [after0_10]
  refine (value_block (iblk m c 0 t) (iblk m c 1 t) (iblk m c 2 t) (iblk m c 3 t) (iblk m c 4 t) (iblk m c 5 t) (iblk m c 6 t) (iblk m c 7 t) y).trans ?_
  unfold values
  refine Finset.sum_congr rfl fun l _ => congrArg₂ (· * ·) (nrm_at m c t _ _ ?_ l) ((wv_at m c t _ _).trans ?_)
  · blk_point [idx t]
  · blk_point [idx t]

theorem final_out (c : Dev nD) : (dats m 0 c).arrAt 11 cfg0.N
    = outs (m ((c : Thread nD τ).loc main_arg0)) (m ((c : Thread nD τ).loc main_arg1)) (m ((c : Thread nD τ).loc main_arg2)) := by
  refine (dats m 0 c).arrAt_eq_of_covers 11 _ (by decide +kernel) fun t hf y => ?_
  blk_simp
  rw [after0_11]
  refine (gateOut_block (iblk m c 0 t) (iblk m c 1 t) (iblk m c 2 t) (iblk m c 3 t) (iblk m c 4 t) (iblk m c 5 t) (iblk m c 6 t) (iblk m c 7 t) y).trans ?_
  unfold outs
  refine Finset.sum_congr rfl fun l _ => congrArg₂ (· * ·) (nrm_at m c t _ _ ?_ l) ((wo_at m c t _ _).trans ?_)
  · blk_point [idx t]
  · blk_point [idx t]

theorem final_key (c : Dev nD) : (dats m 0 c).arrAt 9 cfg0.N
    = keys (m ((c : Thread nD τ).loc main_arg0)) (m ((c : Thread nD τ).loc main_arg1)) (m ((c : Thread nD τ).loc main_arg2)) := by
  refine (dats m 0 c).arrAt_eq_of_covers 9 _ (by decide +kernel) fun t hf y => ?_
  blk_simp
  rw [after0_9]
  refine (key_block (iblk m c 0 t) (iblk m c 1 t) (iblk m c 2 t) (iblk m c 3 t) (iblk m c 4 t) (iblk m c 5 t) (iblk m c 6 t) (iblk m c 7 t) y).trans ?_
  unfold keys
  refine Finset.sum_congr rfl fun l _ => congrArg₂ (· * ·) (nrm_at m c t _ _ ?_ l) ((wk_at m c t _ _).trans ?_)
  · have e0 : ((win0_9.blk t).view.emb y 0).val = t.val * 4 + (y 0).val := by blk_point [idx t]
    have e2 : ((win0_9.blk t).view.emb y 2).val = (y 2).val := by blk_point [idx t]
    show ((win0_9.blk t).view.emb y 0).val * 128 + ((win0_9.blk t).view.emb y 2).val = t.val * 512 + ((y 0).val * 128 + (y 2).val)
    rw [e0, e2]
    omega
  · blk_point [idx t]

theorem row_at (c : Dev nD) (t : Fin cfg0.N) (r : Fin 512) (k : Fin 49152) (hk : k.val = t.val * 512 + r.val) (p : Fin 32) :
    row (iblk m c 0 t) (iblk m c 1 t) (iblk m c 6 t) (iblk m c 7 t) r p
      = pre (m ((c : Thread nD τ).loc main_arg0)) (m ((c : Thread nD τ).loc main_arg1)) (m ((c : Thread nD τ).loc main_arg2))
          (m ((c : Thread nD τ).loc main_arg3)) k (col p) :=
  congrArg₂ (· + ·) (Finset.sum_congr rfl fun l _ => congrArg₂ (· * ·) (nrm_at m c t r k hk l) (wg_at m c t p l)) (bg_at m c t p)

theorem final_gate (c : Dev nD) : (dats m 0 c).arrAt 12 cfg0.N
    = gates (m ((c : Thread nD τ).loc main_arg0)) (m ((c : Thread nD τ).loc main_arg1)) (m ((c : Thread nD τ).loc main_arg2))
        (m ((c : Thread nD τ).loc main_arg3)) := by
  refine (dats m 0 c).arrAt_eq_of_covers 12 _ (by decide +kernel) fun t hf y => ?_
  blk_simp
  rw [after0_12]
  refine (gate_block (iblk m c 0 t) (iblk m c 1 t) (iblk m c 2 t) (iblk m c 3 t) (iblk m c 4 t) (iblk m c 5 t) (iblk m c 6 t) (iblk m c 7 t) y).trans ?_
  have e0 : ((win0_12.blk t).view.emb y 0).val = t.val * 4 + (y 0).val := by blk_point [idx t]
  have e1 : ((win0_12.blk t).view.emb y 1).val = (y 1).val := by blk_point [idx t]
  have e2 : ((win0_12.blk t).view.emb y 2).val = (y 2).val := by blk_point [idx t]
  unfold gates gate
  have h := row_at m c t ⟨(y 0).val * 128 + (y 2).val, by have h : (y 0).val < 4 := (y 0).isLt; have h : (y 2).val < 128 := (y 2).isLt; omega⟩
    ⟨((win0_12.blk t).view.emb y 0).val * 128 + ((win0_12.blk t).view.emb y 2).val, by
      have h : ((win0_12.blk t).view.emb y 0).val < 384 := ((win0_12.blk t).view.emb y 0).isLt
      have h : ((win0_12.blk t).view.emb y 2).val < 128 := ((win0_12.blk t).view.emb y 2).isLt
      omega⟩
    (by
      show ((win0_12.blk t).view.emb y 0).val * 128 + ((win0_12.blk t).view.emb y 2).val = t.val * 512 + ((y 0).val * 128 + (y 2).val)
      rw [e0, e2]
      omega) (y 1)
  have hc : (y 1 : Fin 32) = (win0_12.blk t).view.emb y 1 := Fin.ext e1.symm
  have h' := h.trans (congrArg (fun k : Fin 32 => pre (m ((c : Thread nD τ).loc main_arg0)) (m ((c : Thread nD τ).loc main_arg1))
    (m ((c : Thread nD τ).loc main_arg2)) (m ((c : Thread nD τ).loc main_arg3)) _ (col k)) hc)
  exact if_congr (by rw [e1]) h' (congrArg logSig h')

end Cert.MinIdeal.Hand
end
-- ==== Proof.MinClaim.lean ====
/- The claim about the mLSTM's projections. -/
module

public import proofs.«01_k».proof.Defs
public import proofs.«01_k».proof.Proof.MinFinal
public import proofs.«01_k».proof.Proof.Gen.Min.Frame
public import proofs.«01_k».proof.Proof.Gen.MinRefIdeal.Run
public import Idealize.ShloMosaic.Lib.Claim

@[expose] public section

set_option maxRecDepth 16384

noncomputable section

open Idealize.ShloMosaic Idealize.ShloMosaic.TcCoe Idealize.SL.Sem

namespace Cert.MinClaim

theorem algebraic : Cert.algebraic_MinIdeal_MinRefIdeal := by
  intro m g m' g' hpre hagree
  refine ⟨fun c => (Cert.MinIdeal.Gen.dats m 0 c).arrAt 8 Cert.MinIdeal.cfg0.N, fun c => (Cert.MinIdeal.Gen.dats m 0 c).arrAt 9 Cert.MinIdeal.cfg0.N,
    fun c => (Cert.MinIdeal.Gen.dats m 0 c).arrAt 10 Cert.MinIdeal.cfg0.N, fun c => (Cert.MinIdeal.Gen.dats m 0 c).arrAt 11 Cert.MinIdeal.cfg0.N,
    fun c => (Cert.MinIdeal.Gen.dats m 0 c).arrAt 12 Cert.MinIdeal.cfg0.N, Cert.MinIdeal.Value.run_blocks m g, ?_⟩
  refine (θ_run _ _ _).mono (fun r h c => ?_) (Cert.MinRefIdeal.Value.run (F := Ideal) m' g')
  obtain ⟨a0, a1, a2, a3⟩ := hagree c
  obtain ⟨h0, h1, h2, h3, h4, h5⟩ := h c
  refine ⟨(h0.trans ((Cert.MinRefIdeal.Read.val_main_v39_eq _ _ _).trans (Cert.MinRefIdeal.Hand.queries_eq _ _ _))).trans ?_,
    (h1.trans ((Cert.MinRefIdeal.Read.val_main_v42_eq _ _ _).trans (Cert.MinRefIdeal.Hand.keys_eq _ _ _))).trans ?_,
    (h2.trans ((Cert.MinRefIdeal.Read.val_main_v43_eq _ _ _).trans (Cert.MinRefIdeal.Hand.values_eq _ _ _))).trans ?_,
    (h3.trans ((Cert.MinRefIdeal.Read.val_main_v44_eq _ _ _).trans (Cert.MinRefIdeal.Hand.outs_eq _ _ _))).trans ?_,
    (h4.trans ((Cert.MinRefIdeal.Read.val_main_v46_eq _ _).trans (Cert.MinRefIdeal.Hand.gates_eq _ _ _ _))).trans ?_, h5⟩
  · rw [a0, a1, a2]
    exact (Cert.MinIdeal.Hand.final_query m c).symm
  · rw [a0, a1, a2]
    exact (Cert.MinIdeal.Hand.final_key m c).symm
  · rw [a0, a1, a2]
    exact (Cert.MinIdeal.Hand.final_value m c).symm
  · rw [a0, a1, a2]
    exact (Cert.MinIdeal.Hand.final_out m c).symm
  · rw [a0, a1, a2, a3]
    exact (Cert.MinIdeal.Hand.final_gate m c).symm

end Cert.MinClaim
end
-- ==== Proof.lean ====
module

public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Moe
public import proofs.«01_k».proof.Proof.Gen.Moe.Skeleton
public import proofs.«01_k».proof.Proof.Gen.Moe.Launch
public import proofs.«01_k».proof.Proof.Gen.Moe.Points
public import proofs.«01_k».proof.Proof.Gen.Moe.Frame
public import proofs.«01_k».proof.Proof.Gen.MoeIdeal
public import proofs.«01_k».proof.Proof.Gen.MoeIdeal.Skeleton
public import proofs.«01_k».proof.Proof.Gen.MoeIdeal.Launch
public import proofs.«01_k».proof.Proof.Gen.MoeIdeal.Points
public import proofs.«01_k».proof.Proof.Gen.MoeIdeal.Frame
public import proofs.«01_k».proof.Proof.Gen.MoeRefIdeal
public import proofs.«01_k».proof.Proof.Gen.AttnIdeal.Value
public import proofs.«01_k».proof.Proof.Gen.AttnRefIdeal.Run
public import proofs.«01_k».proof.Proof.Gen.AttnRefIdeal.Read
public import proofs.«01_k».proof.Proof.Gen.MoeIdeal.Value
public import proofs.«01_k».proof.Proof.Gen.MoeRefIdeal.Run
public import proofs.«01_k».proof.Proof.Gen.MoeRefIdeal.Read
public import proofs.«01_k».proof.Proof.AttnClaim
public import proofs.«01_k».proof.Proof.MoeClaim
public import proofs.«01_k».proof.Proof.Gen.Ffn.Frame
public import proofs.«01_k».proof.Proof.Gen.FfnIdeal.Frame
public import proofs.«01_k».proof.Proof.Gen.FfnRefIdeal.Run
public import proofs.«01_k».proof.Proof.FfnClaim
public import proofs.«01_k».proof.Proof.Gen.Proj.Frame
public import proofs.«01_k».proof.Proof.Gen.ProjIdeal.Frame
public import proofs.«01_k».proof.Proof.Gen.ProjRefIdeal.Run
public import proofs.«01_k».proof.Proof.ProjClaim
public import proofs.«01_k».proof.Proof.Gen.Mout.Frame
public import proofs.«01_k».proof.Proof.Gen.MoutIdeal.Frame
public import proofs.«01_k».proof.Proof.Gen.MoutRefIdeal.Run
public import proofs.«01_k».proof.Proof.MoutClaim
public import proofs.«01_k».proof.Proof.Gen.Min.Frame
public import proofs.«01_k».proof.Proof.Gen.MinIdeal.Frame
public import proofs.«01_k».proof.Proof.Gen.MinRefIdeal.Run
public import proofs.«01_k».proof.Proof.MinClaim
public import Idealize.ShloMosaic.Lib.Claim
public import Idealize.ShloMosaic.Adequacy
public import Idealize.ShloMosaic.Init

@[expose] public section

noncomputable section

namespace Cert.Proof

open Idealize.ShloMosaic Idealize.SL.Sem Cert.Attn

/-- The side conditions of the attention's precondition. -/
theorem attnFiniteFacts : Cert.Pre_attn_finite.Facts :=
  ⟨by decide, by decide, by decide, by decide⟩

/-- The side condition of the experts' precondition. -/
theorem gateWeightsFacts : Cert.Pre_gate_weights.Facts :=
  ⟨by decide⟩

theorem frameAttnRefIdeal : Cert.quiescent_AttnRefIdeal := fun m ρ _ =>
  (θ_run Cert.AttnRefIdeal.defs _ _).mono (fun r h => ⟨fun c => (h c).2,
      Idealize.ShloMosaic.sem_eq_zero_of_no_sems (by decide) r.2⟩)
    (Cert.AttnRefIdeal.Value.run (F := Ideal) m ρ)

theorem frameMoeRefIdeal : Cert.quiescent_MoeRefIdeal := fun m ρ _ =>
  (θ_run Cert.MoeRefIdeal.defs _ _).mono (fun r h => ⟨fun c => (h c).2,
      Idealize.ShloMosaic.sem_eq_zero_of_no_sems (by decide) r.2⟩)
    (Cert.MoeRefIdeal.Value.run (F := Ideal) m ρ)

theorem frameFfnRefIdeal : Cert.quiescent_FfnRefIdeal := fun m ρ _ =>
  (θ_run Cert.FfnRefIdeal.defs _ _).mono (fun r h => ⟨fun c => (h c).2,
      Idealize.ShloMosaic.sem_eq_zero_of_no_sems (by decide) r.2⟩)
    (Cert.FfnRefIdeal.Value.run (F := Ideal) m ρ)

theorem frameProjRefIdeal : Cert.quiescent_ProjRefIdeal := fun m ρ _ =>
  (θ_run Cert.ProjRefIdeal.defs _ _).mono (fun r h => ⟨fun c => (h c).2,
      Idealize.ShloMosaic.sem_eq_zero_of_no_sems (by decide) r.2⟩)
    (Cert.ProjRefIdeal.Value.run (F := Ideal) m ρ)

theorem frameMoutRefIdeal : Cert.quiescent_MoutRefIdeal := fun m ρ _ =>
  (θ_run Cert.MoutRefIdeal.defs _ _).mono (fun r h => ⟨fun c => (h c).2,
      Idealize.ShloMosaic.sem_eq_zero_of_no_sems (by decide) r.2⟩)
    (Cert.MoutRefIdeal.Value.run (F := Ideal) m ρ)

theorem frameMinRefIdeal : Cert.quiescent_MinRefIdeal := fun m ρ _ =>
  (θ_run Cert.MinRefIdeal.defs _ _).mono (fun r h => ⟨fun c => (h c).2.2.2.2.2,
      Idealize.ShloMosaic.sem_eq_zero_of_no_sems (by decide) r.2⟩)
    (Cert.MinRefIdeal.Value.run (F := Ideal) m ρ)

theorem claim : Cert.Claim :=
  ⟨Cert.Attn.Gen.facts, Cert.AttnIdeal.Gen.facts, Cert.AttnRefIdeal.Gen.facts,
    Cert.Moe.Gen.facts, Cert.MoeIdeal.Gen.facts, Cert.MoeRefIdeal.Gen.facts,
    Cert.Ffn.Gen.facts, Cert.FfnIdeal.Gen.facts, Cert.FfnRefIdeal.Gen.facts,
    Cert.Proj.Gen.facts, Cert.ProjIdeal.Gen.facts, Cert.ProjRefIdeal.Gen.facts,
    Cert.Mout.Gen.facts, Cert.MoutIdeal.Gen.facts, Cert.MoutRefIdeal.Gen.facts,
    Cert.Min.Gen.facts, Cert.MinIdeal.Gen.facts, Cert.MinRefIdeal.Gen.facts,
    attnFiniteFacts, gateWeightsFacts,
    fun m ρ _ => Cert.Attn.Gen.frame m ρ, fun m ρ _ => Cert.AttnIdeal.Gen.frame m ρ,
    fun m ρ _ => Cert.AttnIdeal.Gen.frame m ρ,
    frameAttnRefIdeal,
    fun m g _ => frameAttnRefIdeal m g trivial,
    fun m ρ _ => Cert.Moe.Gen.frame m ρ, fun m ρ _ => Cert.MoeIdeal.Gen.frame m ρ,
    fun m ρ _ => Cert.MoeIdeal.Gen.frame m ρ,
    frameMoeRefIdeal,
    fun m g _ => frameMoeRefIdeal m g trivial,
    fun m ρ _ => Cert.Ffn.Gen.frame m ρ, fun m ρ _ => Cert.FfnIdeal.Gen.frame m ρ, frameFfnRefIdeal,
    fun m ρ _ => Cert.Proj.Gen.frame m ρ, fun m ρ _ => Cert.ProjIdeal.Gen.frame m ρ, frameProjRefIdeal,
    fun m ρ _ => Cert.Mout.Gen.frame m ρ, fun m ρ _ => Cert.MoutIdeal.Gen.frame m ρ, frameMoutRefIdeal,
    fun m ρ _ => Cert.Min.Gen.frame m ρ, fun m ρ _ => Cert.MinIdeal.Gen.frame m ρ, frameMinRefIdeal,
    trivial, Cert.AttnClaim.algebraic (hPre := attnFiniteFacts),
    trivial, Cert.MoeClaim.algebraic (hPre := gateWeightsFacts),
    trivial, Cert.FfnClaim.algebraic,
    trivial, Cert.ProjClaim.algebraic,
    trivial, Cert.MoutClaim.algebraic,
    trivial, Cert.MinClaim.algebraic⟩

end Cert.Proof

end
